-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x3x512x512 : Shape := ⟨4, ![32, 3, 512, 512]⟩
abbrev S32x128x512 : Shape := ⟨3, ![32, 128, 512]⟩
abbrev S1x3x512x512 : Shape := ⟨4, ![1, 3, 512, 512]⟩
abbrev S1x128x512 : Shape := ⟨3, ![1, 128, 512]⟩
abbrev S1x1x512x512 : Shape := ⟨4, ![1, 1, 512, 512]⟩
abbrev S512x512 : Shape := ⟨2, ![512, 512]⟩
abbrev S1x512 : Shape := ⟨2, ![1, 512]⟩
abbrev S514x512 : Shape := ⟨2, ![514, 512]⟩
abbrev S514x1 : Shape := ⟨2, ![514, 1]⟩
abbrev S514x514 : Shape := ⟨2, ![514, 514]⟩
abbrev S128x512 : Shape := ⟨2, ![128, 512]⟩
abbrev S32x1x256 : Shape := ⟨3, ![32, 1, 256]⟩
abbrev S16x512 : Shape := ⟨2, ![16, 512]⟩
abbrev S4096 : Shape := ⟨1, ![4096]⟩
abbrev S256 : Shape := ⟨1, ![256]⟩
abbrev S_ : Shape := ⟨0, ![]⟩
abbrev S16 : Shape := ⟨1, ![16]⟩
abbrev S1x16x512 : Shape := ⟨3, ![1, 16, 512]⟩
abbrev S1x16 : Shape := ⟨2, ![1, 16]⟩
abbrev S1x1x256 : Shape := ⟨3, ![1, 1, 256]⟩
abbrev S1x256 : Shape := ⟨2, ![1, 256]⟩
abbrev S1 : Shape := ⟨1, ![1]⟩
abbrev S1x1x1 : Shape := ⟨3, ![1, 1, 1]⟩
abbrev S32x256 : Shape := ⟨2, ![32, 256]⟩

abbrev nBuf : Table → Nat
  | .hbm => 6
  | .local .tc .vmem => 8
  | .local .scVector .vmem => 7
  | _ => 0

abbrev bufTy : (tb : Table) → Fin (nBuf tb) → BufTy
  | .hbm, ⟨0, _⟩ => ⟨S32x3x512x512, .f32⟩
  | .hbm, ⟨1, _⟩ => ⟨S32x3x512x512, .f32⟩
  | .hbm, ⟨2, _⟩ => ⟨S32x128x512, .i32⟩
  | .hbm, ⟨3, _⟩ => ⟨S32x1x256, .f32⟩
  | .hbm, ⟨4, _⟩ => ⟨S32x1x256, .f32⟩
  | .hbm, ⟨5, _⟩ => ⟨S32x256, .f32⟩
  | .local .tc .vmem, ⟨0, _⟩ => ⟨S1x3x512x512, .f32⟩
  | .local .tc .vmem, ⟨1, _⟩ => ⟨S1x3x512x512, .f32⟩
  | .local .tc .vmem, ⟨2, _⟩ => ⟨S1x128x512, .i32⟩
  | .local .tc .vmem, ⟨3, _⟩ => ⟨S1x128x512, .i32⟩
  | .local .tc .vmem, ⟨4, _⟩ => ⟨S1x1x256, .f32⟩
  | .local .tc .vmem, ⟨5, _⟩ => ⟨S1x1x256, .f32⟩
  | .local .tc .vmem, ⟨6, _⟩ => ⟨S1x1x256, .f32⟩
  | .local .tc .vmem, ⟨7, _⟩ => ⟨S1x1x256, .f32⟩
  | .local .scVector .vmem, ⟨0, _⟩ => ⟨S16x512, .i32⟩
  | .local .scVector .vmem, ⟨1, _⟩ => ⟨S16x512, .i32⟩
  | .local .scVector .vmem, ⟨2, _⟩ => ⟨S4096, .f32⟩
  | .local .scVector .vmem, ⟨3, _⟩ => ⟨S4096, .f32⟩
  | .local .scVector .vmem, ⟨4, _⟩ => ⟨S4096, .f32⟩
  | .local .scVector .vmem, ⟨5, _⟩ => ⟨S4096, .f32⟩
  | .local .scVector .vmem, ⟨6, _⟩ => ⟨S256, .f32⟩
  | _, _ => ⟨S32x3x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v1_scv : Ref sig .scVector := ⟨.hbm, 2, rfl⟩
abbrev main_v2_scv : Ref sig .scVector := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc2_stg0_0 : Ref sig .tc := ⟨.vmem, 4, rfl⟩
abbrev cc2_stg0_1 : Ref sig .tc := ⟨.vmem, 5, rfl⟩
abbrev cc2_stg1_0 : Ref sig .tc := ⟨.vmem, 6, rfl⟩
abbrev cc2_stg1_1 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc2_sem0_0 : DmaSem sig := 7
abbrev cc2_sem0_1 : DmaSem sig := 8
abbrev cc2_sem1_0 : DmaSem sig := 9
abbrev cc2_sem1_1 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

@[reducible] def k1_t1_loop : Scf.Loop 32 :=
  let c0_i32_12 : BitVec 32 := 0#32
  let c256_i32 : BitVec 32 := 256#32
  let v29 : BitVec 32 := Scalar.addi c0_i32_12 c256_i32
  let c1_i32_13 : BitVec 32 := 1#32
  ⟨c0_i32_12, v29, c1_i32_13⟩
def k1_off1 (k1_t1 : Fin k1_t1_loop.trips) : Fin 1 → Nat :=
  let c0_i32_12 : BitVec 32 := 0#32
  let c1_i32_13 : BitVec 32 := 1#32
  let arg13 : BitVec 32 := Scf.iv c0_i32_12 c1_i32_13 k1_t1
  let c16_i32_106 : BitVec 32 := 16#32
  let v134 : BitVec 32 := Scalar.muli arg13 c16_i32_106
  let v135 : Index := Scalar.indexCast v134
  ![v135.toNat]
def k1_off2 (i : grid1.Coords) (c0_i32_15 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1_i32 : BitVec 32 := 1#32
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let v2 : BitVec 32 := Scalar.divsi v1 c1_i32
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c8_i32 : BitVec 32 := 8#32
  let v33 : BitVec 32 := Scalar.muli v28 c8_i32
  let v34 : BitVec 32 := Scalar.addi v33 c0_i32_15
  let c16_i32 : BitVec 32 := 16#32
  let v35 : BitVec 32 := Scalar.muli v34 c16_i32
  let c0_i32_16 : BitVec 32 := 0#32
  ![v18.toNat, v35.toNat, 0]
@[reducible] def k1_t2_loop : Scf.Loop 32 :=
  let c0_i32_25 : BitVec 32 := 0#32
  let c512_i32 : BitVec 32 := 512#32
  let v51 : BitVec 32 := Scalar.addi c0_i32_25 c512_i32
  let c1_i32_26 : BitVec 32 := 1#32
  ⟨c0_i32_25, v51, c1_i32_26⟩
def k1_off3 (k1_t2 : Fin k1_t2_loop.trips) : Fin 2 → Nat :=
  let c0_i32_106 : BitVec 32 := 0#32
  let c0_i32_25 : BitVec 32 := 0#32
  let c1_i32_26 : BitVec 32 := 1#32
  let arg13 : BitVec 32 := Scf.iv c0_i32_25 c1_i32_26 k1_t2
  let c1_i32_105 : BitVec 32 := 1#32
  let v133 : BitVec 32 := Scalar.muli arg13 c1_i32_105
  let v134 : BitVec 32 := Scalar.addi c0_i32_106 v133
  let c0_i32_107 : BitVec 32 := 0#32
  let v136 : BitVec 1 := Scalar.cmpi .sgt v134 c0_i32_107
  let v137 : BitVec 32 := Scalar.extui v136
  let c0_i32_108 : BitVec 32 := 0#32
  let v138 : BitVec 1 := Scalar.cmpi .slt v134 c0_i32_108
  let v139 : BitVec 32 := Scalar.extui v138
  let v140 : BitVec 32 := Scalar.subi v137 v139
  let c32_i32 : BitVec 32 := 32#32
  let c0_i32_109 : BitVec 32 := 0#32
  let v141 : BitVec 1 := Scalar.cmpi .sgt c32_i32 c0_i32_109
  let v142 : BitVec 32 := Scalar.extui v141
  let c0_i32_110 : BitVec 32 := 0#32
  let v143 : BitVec 1 := Scalar.cmpi .slt c32_i32 c0_i32_110
  let v144 : BitVec 32 := Scalar.extui v143
  let v145 : BitVec 32 := Scalar.subi v142 v144
  let v146 : BitVec 1 := Scalar.cmpi .ne v140 v145
  let v147 : BitVec 32 := Scalar.remsi v134 c32_i32
  let c0_i32_111 : BitVec 32 := 0#32
  let v148 : BitVec 1 := Scalar.cmpi .ne v147 c0_i32_111
  let v149 : BitVec 1 := Scalar.andi v146 v148
  let v135 : BitVec 32 := Scalar.divsi v134 c32_i32
  let c1_i32_112 : BitVec 32 := 1#32
  let v150 : BitVec 32 := Scalar.subi v135 c1_i32_112
  let v151 : BitVec 32 := Scalar.select v149 v150 v135
  let v163 : Index := Scalar.indexCast v151
  let c32_i32_113 : BitVec 32 := 32#32
  let c0_i32_114 : BitVec 32 := 0#32
  let v152 : BitVec 1 := Scalar.cmpi .eq c32_i32_113 c0_i32_114
  let c1_i32_115 : BitVec 32 := 1#32
  let v153 : BitVec 32 := Scalar.select v152 c1_i32_115 c32_i32_113
  let v154 : BitVec 32 := Scalar.remsi v134 v153
  let c0_i32_117 : BitVec 32 := 0#32
  let v156 : BitVec 1 := Scalar.cmpi .slt v154 c0_i32_117
  let c0_i32_118 : BitVec 32 := 0#32
  let v157 : BitVec 1 := Scalar.cmpi .slt v153 c0_i32_118
  let v158 : BitVec 1 := Scalar.xori v156 v157
  let c0_i32_116 : BitVec 32 := 0#32
  let v155 : BitVec 1 := Scalar.cmpi .ne v154 c0_i32_116
  let v159 : BitVec 1 := Scalar.andi v158 v155
  let v160 : BitVec 32 := Scalar.addi v154 v153
  let v161 : BitVec 32 := Scalar.select v159 v160 v154
  let c16_i32_119 : BitVec 32 := 16#32
  let v162 : BitVec 32 := Scalar.muli v161 c16_i32_119
  let v164 : Index := Scalar.indexCast v162
  ![v163.toNat, v164.toNat]

def k1_chk1 (v172 : IVec S16 32) : Prop :=
  (∀ a x, ((![v172] : Fin 1 → IVec S16 32) a x).toNat < S4096.size a)
theorem k1_idx1_inb : ∀ (v172 : IVec S16 32) (k1_hw1 : k1_chk1 v172), ∀ a x, ((![v172] : Fin 1 → IVec S16 32) a x).toNat < S4096.size a := fun v172 k1_hw1 => k1_hw1

def k1_chk2 (v179 : IVec S16 32) : Prop :=
  (∀ a x, ((![v179] : Fin 1 → IVec S16 32) a x).toNat < S4096.size a)
theorem k1_idx2_inb : ∀ (v179 : IVec S16 32) (k1_hw2 : k1_chk2 v179), ∀ a x, ((![v179] : Fin 1 → IVec S16 32) a x).toNat < S4096.size a := fun v179 k1_hw2 => k1_hw2

def k1_chk3 (v186 : IVec S16 32) : Prop :=
  (∀ a x, ((![v186] : Fin 1 → IVec S16 32) a x).toNat < S4096.size a)
theorem k1_idx3_inb : ∀ (v186 : IVec S16 32) (k1_hw3 : k1_chk3 v186), ∀ a x, ((![v186] : Fin 1 → IVec S16 32) a x).toNat < S4096.size a := fun v186 k1_hw3 => k1_hw3

def k1_chk4 (v193 : IVec S16 32) : Prop :=
  (∀ a x, ((![v193] : Fin 1 → IVec S16 32) a x).toNat < S4096.size a)
theorem k1_idx4_inb : ∀ (v193 : IVec S16 32) (k1_hw4 : k1_chk4 v193), ∀ a x, ((![v193] : Fin 1 → IVec S16 32) a x).toNat < S4096.size a := fun v193 k1_hw4 => k1_hw4
@[reducible] def k1_t3_loop : Scf.Loop 32 :=
  let c0_i32_35 : BitVec 32 := 0#32
  let c512_i32_36 : BitVec 32 := 512#32
  let v63 : BitVec 32 := Scalar.addi c0_i32_35 c512_i32_36
  let c1_i32_37 : BitVec 32 := 1#32
  ⟨c0_i32_35, v63, c1_i32_37⟩
def k1_off4 (k1_t3 : Fin k1_t3_loop.trips) : Fin 2 → Nat :=
  let c0_i32_106 : BitVec 32 := 0#32
  let c0_i32_35 : BitVec 32 := 0#32
  let c1_i32_37 : BitVec 32 := 1#32
  let arg13 : BitVec 32 := Scf.iv c0_i32_35 c1_i32_37 k1_t3
  let c1_i32_105 : BitVec 32 := 1#32
  let v133 : BitVec 32 := Scalar.muli arg13 c1_i32_105
  let v134 : BitVec 32 := Scalar.addi c0_i32_106 v133
  let c0_i32_107 : BitVec 32 := 0#32
  let v136 : BitVec 1 := Scalar.cmpi .sgt v134 c0_i32_107
  let v137 : BitVec 32 := Scalar.extui v136
  let c0_i32_108 : BitVec 32 := 0#32
  let v138 : BitVec 1 := Scalar.cmpi .slt v134 c0_i32_108
  let v139 : BitVec 32 := Scalar.extui v138
  let v140 : BitVec 32 := Scalar.subi v137 v139
  let c32_i32 : BitVec 32 := 32#32
  let c0_i32_109 : BitVec 32 := 0#32
  let v141 : BitVec 1 := Scalar.cmpi .sgt c32_i32 c0_i32_109
  let v142 : BitVec 32 := Scalar.extui v141
  let c0_i32_110 : BitVec 32 := 0#32
  let v143 : BitVec 1 := Scalar.cmpi .slt c32_i32 c0_i32_110
  let v144 : BitVec 32 := Scalar.extui v143
  let v145 : BitVec 32 := Scalar.subi v142 v144
  let v146 : BitVec 1 := Scalar.cmpi .ne v140 v145
  let v147 : BitVec 32 := Scalar.remsi v134 c32_i32
  let c0_i32_111 : BitVec 32 := 0#32
  let v148 : BitVec 1 := Scalar.cmpi .ne v147 c0_i32_111
  let v149 : BitVec 1 := Scalar.andi v146 v148
  let v135 : BitVec 32 := Scalar.divsi v134 c32_i32
  let c1_i32_112 : BitVec 32 := 1#32
  let v150 : BitVec 32 := Scalar.subi v135 c1_i32_112
  let v151 : BitVec 32 := Scalar.select v149 v150 v135
  let v163 : Index := Scalar.indexCast v151
  let c32_i32_113 : BitVec 32 := 32#32
  let c0_i32_114 : BitVec 32 := 0#32
  let v152 : BitVec 1 := Scalar.cmpi .eq c32_i32_113 c0_i32_114
  let c1_i32_115 : BitVec 32 := 1#32
  let v153 : BitVec 32 := Scalar.select v152 c1_i32_115 c32_i32_113
  let v154 : BitVec 32 := Scalar.remsi v134 v153
  let c0_i32_117 : BitVec 32 := 0#32
  let v156 : BitVec 1 := Scalar.cmpi .slt v154 c0_i32_117
  let c0_i32_118 : BitVec 32 := 0#32
  let v157 : BitVec 1 := Scalar.cmpi .slt v153 c0_i32_118
  let v158 : BitVec 1 := Scalar.xori v156 v157
  let c0_i32_116 : BitVec 32 := 0#32
  let v155 : BitVec 1 := Scalar.cmpi .ne v154 c0_i32_116
  let v159 : BitVec 1 := Scalar.andi v158 v155
  let v160 : BitVec 32 := Scalar.addi v154 v153
  let v161 : BitVec 32 := Scalar.select v159 v160 v154
  let c16_i32_119 : BitVec 32 := 16#32
  let v162 : BitVec 32 := Scalar.muli v161 c16_i32_119
  let v164 : Index := Scalar.indexCast v162
  ![v163.toNat, v164.toNat]

def k1_chk5 (v172 : IVec S16 32) : Prop :=
  (∀ a x, ((![v172] : Fin 1 → IVec S16 32) a x).toNat < S4096.size a)
theorem k1_idx5_inb : ∀ (v172 : IVec S16 32) (k1_hw5 : k1_chk5 v172), ∀ a x, ((![v172] : Fin 1 → IVec S16 32) a x).toNat < S4096.size a := fun v172 k1_hw5 => k1_hw5

def k1_chk6 (v179 : IVec S16 32) : Prop :=
  (∀ a x, ((![v179] : Fin 1 → IVec S16 32) a x).toNat < S4096.size a)
theorem k1_idx6_inb : ∀ (v179 : IVec S16 32) (k1_hw6 : k1_chk6 v179), ∀ a x, ((![v179] : Fin 1 → IVec S16 32) a x).toNat < S4096.size a := fun v179 k1_hw6 => k1_hw6

def k1_chk7 (v186 : IVec S16 32) : Prop :=
  (∀ a x, ((![v186] : Fin 1 → IVec S16 32) a x).toNat < S4096.size a)
theorem k1_idx7_inb : ∀ (v186 : IVec S16 32) (k1_hw7 : k1_chk7 v186), ∀ a x, ((![v186] : Fin 1 → IVec S16 32) a x).toNat < S4096.size a := fun v186 k1_hw7 => k1_hw7

def k1_chk8 (v193 : IVec S16 32) : Prop :=
  (∀ a x, ((![v193] : Fin 1 → IVec S16 32) a x).toNat < S4096.size a)
theorem k1_idx8_inb : ∀ (v193 : IVec S16 32) (k1_hw8 : k1_chk8 v193), ∀ a x, ((![v193] : Fin 1 → IVec S16 32) a x).toNat < S4096.size a := fun v193 k1_hw8 => k1_hw8
@[reducible] def k1_t4_loop : Scf.Loop 32 :=
  let c0_i32_45 : BitVec 32 := 0#32
  let c512_i32_46 : BitVec 32 := 512#32
  let v75 : BitVec 32 := Scalar.addi c0_i32_45 c512_i32_46
  let c1_i32_47 : BitVec 32 := 1#32
  ⟨c0_i32_45, v75, c1_i32_47⟩
def k1_off5 (k1_t4 : Fin k1_t4_loop.trips) : Fin 2 → Nat :=
  let c0_i32_106 : BitVec 32 := 0#32
  let c0_i32_45 : BitVec 32 := 0#32
  let c1_i32_47 : BitVec 32 := 1#32
  let arg13 : BitVec 32 := Scf.iv c0_i32_45 c1_i32_47 k1_t4
  let c1_i32_105 : BitVec 32 := 1#32
  let v133 : BitVec 32 := Scalar.muli arg13 c1_i32_105
  let v134 : BitVec 32 := Scalar.addi c0_i32_106 v133
  let c0_i32_107 : BitVec 32 := 0#32
  let v136 : BitVec 1 := Scalar.cmpi .sgt v134 c0_i32_107
  let v137 : BitVec 32 := Scalar.extui v136
  let c0_i32_108 : BitVec 32 := 0#32
  let v138 : BitVec 1 := Scalar.cmpi .slt v134 c0_i32_108
  let v139 : BitVec 32 := Scalar.extui v138
  let v140 : BitVec 32 := Scalar.subi v137 v139
  let c32_i32 : BitVec 32 := 32#32
  let c0_i32_109 : BitVec 32 := 0#32
  let v141 : BitVec 1 := Scalar.cmpi .sgt c32_i32 c0_i32_109
  let v142 : BitVec 32 := Scalar.extui v141
  let c0_i32_110 : BitVec 32 := 0#32
  let v143 : BitVec 1 := Scalar.cmpi .slt c32_i32 c0_i32_110
  let v144 : BitVec 32 := Scalar.extui v143
  let v145 : BitVec 32 := Scalar.subi v142 v144
  let v146 : BitVec 1 := Scalar.cmpi .ne v140 v145
  let v147 : BitVec 32 := Scalar.remsi v134 c32_i32
  let c0_i32_111 : BitVec 32 := 0#32
  let v148 : BitVec 1 := Scalar.cmpi .ne v147 c0_i32_111
  let v149 : BitVec 1 := Scalar.andi v146 v148
  let v135 : BitVec 32 := Scalar.divsi v134 c32_i32
  let c1_i32_112 : BitVec 32 := 1#32
  let v150 : BitVec 32 := Scalar.subi v135 c1_i32_112
  let v151 : BitVec 32 := Scalar.select v149 v150 v135
  let v163 : Index := Scalar.indexCast v151
  let c32_i32_113 : BitVec 32 := 32#32
  let c0_i32_114 : BitVec 32 := 0#32
  let v152 : BitVec 1 := Scalar.cmpi .eq c32_i32_113 c0_i32_114
  let c1_i32_115 : BitVec 32 := 1#32
  let v153 : BitVec 32 := Scalar.select v152 c1_i32_115 c32_i32_113
  let v154 : BitVec 32 := Scalar.remsi v134 v153
  let c0_i32_117 : BitVec 32 := 0#32
  let v156 : BitVec 1 := Scalar.cmpi .slt v154 c0_i32_117
  let c0_i32_118 : BitVec 32 := 0#32
  let v157 : BitVec 1 := Scalar.cmpi .slt v153 c0_i32_118
  let v158 : BitVec 1 := Scalar.xori v156 v157
  let c0_i32_116 : BitVec 32 := 0#32
  let v155 : BitVec 1 := Scalar.cmpi .ne v154 c0_i32_116
  let v159 : BitVec 1 := Scalar.andi v158 v155
  let v160 : BitVec 32 := Scalar.addi v154 v153
  let v161 : BitVec 32 := Scalar.select v159 v160 v154
  let c16_i32_119 : BitVec 32 := 16#32
  let v162 : BitVec 32 := Scalar.muli v161 c16_i32_119
  let v164 : Index := Scalar.indexCast v162
  ![v163.toNat, v164.toNat]

def k1_chk9 (v172 : IVec S16 32) : Prop :=
  (∀ a x, ((![v172] : Fin 1 → IVec S16 32) a x).toNat < S4096.size a)
theorem k1_idx9_inb : ∀ (v172 : IVec S16 32) (k1_hw9 : k1_chk9 v172), ∀ a x, ((![v172] : Fin 1 → IVec S16 32) a x).toNat < S4096.size a := fun v172 k1_hw9 => k1_hw9

def k1_chk10 (v179 : IVec S16 32) : Prop :=
  (∀ a x, ((![v179] : Fin 1 → IVec S16 32) a x).toNat < S4096.size a)
theorem k1_idx10_inb : ∀ (v179 : IVec S16 32) (k1_hw10 : k1_chk10 v179), ∀ a x, ((![v179] : Fin 1 → IVec S16 32) a x).toNat < S4096.size a := fun v179 k1_hw10 => k1_hw10

def k1_chk11 (v186 : IVec S16 32) : Prop :=
  (∀ a x, ((![v186] : Fin 1 → IVec S16 32) a x).toNat < S4096.size a)
theorem k1_idx11_inb : ∀ (v186 : IVec S16 32) (k1_hw11 : k1_chk11 v186), ∀ a x, ((![v186] : Fin 1 → IVec S16 32) a x).toNat < S4096.size a := fun v186 k1_hw11 => k1_hw11

def k1_chk12 (v193 : IVec S16 32) : Prop :=
  (∀ a x, ((![v193] : Fin 1 → IVec S16 32) a x).toNat < S4096.size a)
theorem k1_idx12_inb : ∀ (v193 : IVec S16 32) (k1_hw12 : k1_chk12 v193), ∀ a x, ((![v193] : Fin 1 → IVec S16 32) a x).toNat < S4096.size a := fun v193 k1_hw12 => k1_hw12
@[reducible] def k1_t5_loop : Scf.Loop 32 :=
  let c0_i32_55 : BitVec 32 := 0#32
  let c512_i32_56 : BitVec 32 := 512#32
  let v87 : BitVec 32 := Scalar.addi c0_i32_55 c512_i32_56
  let c1_i32_57 : BitVec 32 := 1#32
  ⟨c0_i32_55, v87, c1_i32_57⟩
def k1_off6 (k1_t5 : Fin k1_t5_loop.trips) : Fin 2 → Nat :=
  let c0_i32_106 : BitVec 32 := 0#32
  let c0_i32_55 : BitVec 32 := 0#32
  let c1_i32_57 : BitVec 32 := 1#32
  let arg13 : BitVec 32 := Scf.iv c0_i32_55 c1_i32_57 k1_t5
  let c1_i32_105 : BitVec 32 := 1#32
  let v133 : BitVec 32 := Scalar.muli arg13 c1_i32_105
  let v134 : BitVec 32 := Scalar.addi c0_i32_106 v133
  let c0_i32_107 : BitVec 32 := 0#32
  let v136 : BitVec 1 := Scalar.cmpi .sgt v134 c0_i32_107
  let v137 : BitVec 32 := Scalar.extui v136
  let c0_i32_108 : BitVec 32 := 0#32
  let v138 : BitVec 1 := Scalar.cmpi .slt v134 c0_i32_108
  let v139 : BitVec 32 := Scalar.extui v138
  let v140 : BitVec 32 := Scalar.subi v137 v139
  let c32_i32 : BitVec 32 := 32#32
  let c0_i32_109 : BitVec 32 := 0#32
  let v141 : BitVec 1 := Scalar.cmpi .sgt c32_i32 c0_i32_109
  let v142 : BitVec 32 := Scalar.extui v141
  let c0_i32_110 : BitVec 32 := 0#32
  let v143 : BitVec 1 := Scalar.cmpi .slt c32_i32 c0_i32_110
  let v144 : BitVec 32 := Scalar.extui v143
  let v145 : BitVec 32 := Scalar.subi v142 v144
  let v146 : BitVec 1 := Scalar.cmpi .ne v140 v145
  let v147 : BitVec 32 := Scalar.remsi v134 c32_i32
  let c0_i32_111 : BitVec 32 := 0#32
  let v148 : BitVec 1 := Scalar.cmpi .ne v147 c0_i32_111
  let v149 : BitVec 1 := Scalar.andi v146 v148
  let v135 : BitVec 32 := Scalar.divsi v134 c32_i32
  let c1_i32_112 : BitVec 32 := 1#32
  let v150 : BitVec 32 := Scalar.subi v135 c1_i32_112
  let v151 : BitVec 32 := Scalar.select v149 v150 v135
  let v163 : Index := Scalar.indexCast v151
  let c32_i32_113 : BitVec 32 := 32#32
  let c0_i32_114 : BitVec 32 := 0#32
  let v152 : BitVec 1 := Scalar.cmpi .eq c32_i32_113 c0_i32_114
  let c1_i32_115 : BitVec 32 := 1#32
  let v153 : BitVec 32 := Scalar.select v152 c1_i32_115 c32_i32_113
  let v154 : BitVec 32 := Scalar.remsi v134 v153
  let c0_i32_117 : BitVec 32 := 0#32
  let v156 : BitVec 1 := Scalar.cmpi .slt v154 c0_i32_117
  let c0_i32_118 : BitVec 32 := 0#32
  let v157 : BitVec 1 := Scalar.cmpi .slt v153 c0_i32_118
  let v158 : BitVec 1 := Scalar.xori v156 v157
  let c0_i32_116 : BitVec 32 := 0#32
  let v155 : BitVec 1 := Scalar.cmpi .ne v154 c0_i32_116
  let v159 : BitVec 1 := Scalar.andi v158 v155
  let v160 : BitVec 32 := Scalar.addi v154 v153
  let v161 : BitVec 32 := Scalar.select v159 v160 v154
  let c16_i32_119 : BitVec 32 := 16#32
  let v162 : BitVec 32 := Scalar.muli v161 c16_i32_119
  let v164 : Index := Scalar.indexCast v162
  ![v163.toNat, v164.toNat]

def k1_chk13 (v172 : IVec S16 32) : Prop :=
  (∀ a x, ((![v172] : Fin 1 → IVec S16 32) a x).toNat < S4096.size a)
theorem k1_idx13_inb : ∀ (v172 : IVec S16 32) (k1_hw13 : k1_chk13 v172), ∀ a x, ((![v172] : Fin 1 → IVec S16 32) a x).toNat < S4096.size a := fun v172 k1_hw13 => k1_hw13

def k1_chk14 (v179 : IVec S16 32) : Prop :=
  (∀ a x, ((![v179] : Fin 1 → IVec S16 32) a x).toNat < S4096.size a)
theorem k1_idx14_inb : ∀ (v179 : IVec S16 32) (k1_hw14 : k1_chk14 v179), ∀ a x, ((![v179] : Fin 1 → IVec S16 32) a x).toNat < S4096.size a := fun v179 k1_hw14 => k1_hw14

def k1_chk15 (v186 : IVec S16 32) : Prop :=
  (∀ a x, ((![v186] : Fin 1 → IVec S16 32) a x).toNat < S4096.size a)
theorem k1_idx15_inb : ∀ (v186 : IVec S16 32) (k1_hw15 : k1_chk15 v186), ∀ a x, ((![v186] : Fin 1 → IVec S16 32) a x).toNat < S4096.size a := fun v186 k1_hw15 => k1_hw15

def k1_chk16 (v193 : IVec S16 32) : Prop :=
  (∀ a x, ((![v193] : Fin 1 → IVec S16 32) a x).toNat < S4096.size a)
theorem k1_idx16_inb : ∀ (v193 : IVec S16 32) (k1_hw16 : k1_chk16 v193), ∀ a x, ((![v193] : Fin 1 → IVec S16 32) a x).toNat < S4096.size a := fun v193 k1_hw16 => k1_hw16
@[reducible] def k1_t6_loop : Scf.Loop 32 :=
  let c0_i32_65 : BitVec 32 := 0#32
  let c512_i32_66 : BitVec 32 := 512#32
  let v99 : BitVec 32 := Scalar.addi c0_i32_65 c512_i32_66
  let c1_i32_67 : BitVec 32 := 1#32
  ⟨c0_i32_65, v99, c1_i32_67⟩
def k1_off7 (k1_t6 : Fin k1_t6_loop.trips) : Fin 2 → Nat :=
  let c0_i32_106 : BitVec 32 := 0#32
  let c0_i32_65 : BitVec 32 := 0#32
  let c1_i32_67 : BitVec 32 := 1#32
  let arg13 : BitVec 32 := Scf.iv c0_i32_65 c1_i32_67 k1_t6
  let c1_i32_105 : BitVec 32 := 1#32
  let v133 : BitVec 32 := Scalar.muli arg13 c1_i32_105
  let v134 : BitVec 32 := Scalar.addi c0_i32_106 v133
  let c0_i32_107 : BitVec 32 := 0#32
  let v136 : BitVec 1 := Scalar.cmpi .sgt v134 c0_i32_107
  let v137 : BitVec 32 := Scalar.extui v136
  let c0_i32_108 : BitVec 32 := 0#32
  let v138 : BitVec 1 := Scalar.cmpi .slt v134 c0_i32_108
  let v139 : BitVec 32 := Scalar.extui v138
  let v140 : BitVec 32 := Scalar.subi v137 v139
  let c32_i32 : BitVec 32 := 32#32
  let c0_i32_109 : BitVec 32 := 0#32
  let v141 : BitVec 1 := Scalar.cmpi .sgt c32_i32 c0_i32_109
  let v142 : BitVec 32 := Scalar.extui v141
  let c0_i32_110 : BitVec 32 := 0#32
  let v143 : BitVec 1 := Scalar.cmpi .slt c32_i32 c0_i32_110
  let v144 : BitVec 32 := Scalar.extui v143
  let v145 : BitVec 32 := Scalar.subi v142 v144
  let v146 : BitVec 1 := Scalar.cmpi .ne v140 v145
  let v147 : BitVec 32 := Scalar.remsi v134 c32_i32
  let c0_i32_111 : BitVec 32 := 0#32
  let v148 : BitVec 1 := Scalar.cmpi .ne v147 c0_i32_111
  let v149 : BitVec 1 := Scalar.andi v146 v148
  let v135 : BitVec 32 := Scalar.divsi v134 c32_i32
  let c1_i32_112 : BitVec 32 := 1#32
  let v150 : BitVec 32 := Scalar.subi v135 c1_i32_112
  let v151 : BitVec 32 := Scalar.select v149 v150 v135
  let v163 : Index := Scalar.indexCast v151
  let c32_i32_113 : BitVec 32 := 32#32
  let c0_i32_114 : BitVec 32 := 0#32
  let v152 : BitVec 1 := Scalar.cmpi .eq c32_i32_113 c0_i32_114
  let c1_i32_115 : BitVec 32 := 1#32
  let v153 : BitVec 32 := Scalar.select v152 c1_i32_115 c32_i32_113
  let v154 : BitVec 32 := Scalar.remsi v134 v153
  let c0_i32_117 : BitVec 32 := 0#32
  let v156 : BitVec 1 := Scalar.cmpi .slt v154 c0_i32_117
  let c0_i32_118 : BitVec 32 := 0#32
  let v157 : BitVec 1 := Scalar.cmpi .slt v153 c0_i32_118
  let v158 : BitVec 1 := Scalar.xori v156 v157
  let c0_i32_116 : BitVec 32 := 0#32
  let v155 : BitVec 1 := Scalar.cmpi .ne v154 c0_i32_116
  let v159 : BitVec 1 := Scalar.andi v158 v155
  let v160 : BitVec 32 := Scalar.addi v154 v153
  let v161 : BitVec 32 := Scalar.select v159 v160 v154
  let c16_i32_119 : BitVec 32 := 16#32
  let v162 : BitVec 32 := Scalar.muli v161 c16_i32_119
  let v164 : Index := Scalar.indexCast v162
  ![v163.toNat, v164.toNat]

def k1_chk17 (v172 : IVec S16 32) : Prop :=
  (∀ a x, ((![v172] : Fin 1 → IVec S16 32) a x).toNat < S4096.size a)
theorem k1_idx17_inb : ∀ (v172 : IVec S16 32) (k1_hw17 : k1_chk17 v172), ∀ a x, ((![v172] : Fin 1 → IVec S16 32) a x).toNat < S4096.size a := fun v172 k1_hw17 => k1_hw17

def k1_chk18 (v179 : IVec S16 32) : Prop :=
  (∀ a x, ((![v179] : Fin 1 → IVec S16 32) a x).toNat < S4096.size a)
theorem k1_idx18_inb : ∀ (v179 : IVec S16 32) (k1_hw18 : k1_chk18 v179), ∀ a x, ((![v179] : Fin 1 → IVec S16 32) a x).toNat < S4096.size a := fun v179 k1_hw18 => k1_hw18

def k1_chk19 (v186 : IVec S16 32) : Prop :=
  (∀ a x, ((![v186] : Fin 1 → IVec S16 32) a x).toNat < S4096.size a)
theorem k1_idx19_inb : ∀ (v186 : IVec S16 32) (k1_hw19 : k1_chk19 v186), ∀ a x, ((![v186] : Fin 1 → IVec S16 32) a x).toNat < S4096.size a := fun v186 k1_hw19 => k1_hw19

def k1_chk20 (v193 : IVec S16 32) : Prop :=
  (∀ a x, ((![v193] : Fin 1 → IVec S16 32) a x).toNat < S4096.size a)
theorem k1_idx20_inb : ∀ (v193 : IVec S16 32) (k1_hw20 : k1_chk20 v193), ∀ a x, ((![v193] : Fin 1 → IVec S16 32) a x).toNat < S4096.size a := fun v193 k1_hw20 => k1_hw20
@[reducible] def k1_t7_loop : Scf.Loop 32 :=
  let c0_i32_75 : BitVec 32 := 0#32
  let c512_i32_76 : BitVec 32 := 512#32
  let v111 : BitVec 32 := Scalar.addi c0_i32_75 c512_i32_76
  let c1_i32_77 : BitVec 32 := 1#32
  ⟨c0_i32_75, v111, c1_i32_77⟩
def k1_off8 (k1_t7 : Fin k1_t7_loop.trips) : Fin 2 → Nat :=
  let c0_i32_106 : BitVec 32 := 0#32
  let c0_i32_75 : BitVec 32 := 0#32
  let c1_i32_77 : BitVec 32 := 1#32
  let arg13 : BitVec 32 := Scf.iv c0_i32_75 c1_i32_77 k1_t7
  let c1_i32_105 : BitVec 32 := 1#32
  let v133 : BitVec 32 := Scalar.muli arg13 c1_i32_105
  let v134 : BitVec 32 := Scalar.addi c0_i32_106 v133
  let c0_i32_107 : BitVec 32 := 0#32
  let v136 : BitVec 1 := Scalar.cmpi .sgt v134 c0_i32_107
  let v137 : BitVec 32 := Scalar.extui v136
  let c0_i32_108 : BitVec 32 := 0#32
  let v138 : BitVec 1 := Scalar.cmpi .slt v134 c0_i32_108
  let v139 : BitVec 32 := Scalar.extui v138
  let v140 : BitVec 32 := Scalar.subi v137 v139
  let c32_i32 : BitVec 32 := 32#32
  let c0_i32_109 : BitVec 32 := 0#32
  let v141 : BitVec 1 := Scalar.cmpi .sgt c32_i32 c0_i32_109
  let v142 : BitVec 32 := Scalar.extui v141
  let c0_i32_110 : BitVec 32 := 0#32
  let v143 : BitVec 1 := Scalar.cmpi .slt c32_i32 c0_i32_110
  let v144 : BitVec 32 := Scalar.extui v143
  let v145 : BitVec 32 := Scalar.subi v142 v144
  let v146 : BitVec 1 := Scalar.cmpi .ne v140 v145
  let v147 : BitVec 32 := Scalar.remsi v134 c32_i32
  let c0_i32_111 : BitVec 32 := 0#32
  let v148 : BitVec 1 := Scalar.cmpi .ne v147 c0_i32_111
  let v149 : BitVec 1 := Scalar.andi v146 v148
  let v135 : BitVec 32 := Scalar.divsi v134 c32_i32
  let c1_i32_112 : BitVec 32 := 1#32
  let v150 : BitVec 32 := Scalar.subi v135 c1_i32_112
  let v151 : BitVec 32 := Scalar.select v149 v150 v135
  let v163 : Index := Scalar.indexCast v151
  let c32_i32_113 : BitVec 32 := 32#32
  let c0_i32_114 : BitVec 32 := 0#32
  let v152 : BitVec 1 := Scalar.cmpi .eq c32_i32_113 c0_i32_114
  let c1_i32_115 : BitVec 32 := 1#32
  let v153 : BitVec 32 := Scalar.select v152 c1_i32_115 c32_i32_113
  let v154 : BitVec 32 := Scalar.remsi v134 v153
  let c0_i32_117 : BitVec 32 := 0#32
  let v156 : BitVec 1 := Scalar.cmpi .slt v154 c0_i32_117
  let c0_i32_118 : BitVec 32 := 0#32
  let v157 : BitVec 1 := Scalar.cmpi .slt v153 c0_i32_118
  let v158 : BitVec 1 := Scalar.xori v156 v157
  let c0_i32_116 : BitVec 32 := 0#32
  let v155 : BitVec 1 := Scalar.cmpi .ne v154 c0_i32_116
  let v159 : BitVec 1 := Scalar.andi v158 v155
  let v160 : BitVec 32 := Scalar.addi v154 v153
  let v161 : BitVec 32 := Scalar.select v159 v160 v154
  let c16_i32_119 : BitVec 32 := 16#32
  let v162 : BitVec 32 := Scalar.muli v161 c16_i32_119
  let v164 : Index := Scalar.indexCast v162
  ![v163.toNat, v164.toNat]

def k1_chk21 (v172 : IVec S16 32) : Prop :=
  (∀ a x, ((![v172] : Fin 1 → IVec S16 32) a x).toNat < S4096.size a)
theorem k1_idx21_inb : ∀ (v172 : IVec S16 32) (k1_hw21 : k1_chk21 v172), ∀ a x, ((![v172] : Fin 1 → IVec S16 32) a x).toNat < S4096.size a := fun v172 k1_hw21 => k1_hw21

def k1_chk22 (v179 : IVec S16 32) : Prop :=
  (∀ a x, ((![v179] : Fin 1 → IVec S16 32) a x).toNat < S4096.size a)
theorem k1_idx22_inb : ∀ (v179 : IVec S16 32) (k1_hw22 : k1_chk22 v179), ∀ a x, ((![v179] : Fin 1 → IVec S16 32) a x).toNat < S4096.size a := fun v179 k1_hw22 => k1_hw22

def k1_chk23 (v186 : IVec S16 32) : Prop :=
  (∀ a x, ((![v186] : Fin 1 → IVec S16 32) a x).toNat < S4096.size a)
theorem k1_idx23_inb : ∀ (v186 : IVec S16 32) (k1_hw23 : k1_chk23 v186), ∀ a x, ((![v186] : Fin 1 → IVec S16 32) a x).toNat < S4096.size a := fun v186 k1_hw23 => k1_hw23

def k1_chk24 (v193 : IVec S16 32) : Prop :=
  (∀ a x, ((![v193] : Fin 1 → IVec S16 32) a x).toNat < S4096.size a)
theorem k1_idx24_inb : ∀ (v193 : IVec S16 32) (k1_hw24 : k1_chk24 v193), ∀ a x, ((![v193] : Fin 1 → IVec S16 32) a x).toNat < S4096.size a := fun v193 k1_hw24 => k1_hw24
@[reducible] def k1_t8_loop : Scf.Loop 32 :=
  let c0_i32_85 : BitVec 32 := 0#32
  let c512_i32_86 : BitVec 32 := 512#32
  let v123 : BitVec 32 := Scalar.addi c0_i32_85 c512_i32_86
  let c1_i32_87 : BitVec 32 := 1#32
  ⟨c0_i32_85, v123, c1_i32_87⟩
def k1_off9 (k1_t8 : Fin k1_t8_loop.trips) : Fin 2 → Nat :=
  let c0_i32_106 : BitVec 32 := 0#32
  let c0_i32_85 : BitVec 32 := 0#32
  let c1_i32_87 : BitVec 32 := 1#32
  let arg13 : BitVec 32 := Scf.iv c0_i32_85 c1_i32_87 k1_t8
  let c1_i32_105 : BitVec 32 := 1#32
  let v133 : BitVec 32 := Scalar.muli arg13 c1_i32_105
  let v134 : BitVec 32 := Scalar.addi c0_i32_106 v133
  let c0_i32_107 : BitVec 32 := 0#32
  let v136 : BitVec 1 := Scalar.cmpi .sgt v134 c0_i32_107
  let v137 : BitVec 32 := Scalar.extui v136
  let c0_i32_108 : BitVec 32 := 0#32
  let v138 : BitVec 1 := Scalar.cmpi .slt v134 c0_i32_108
  let v139 : BitVec 32 := Scalar.extui v138
  let v140 : BitVec 32 := Scalar.subi v137 v139
  let c32_i32 : BitVec 32 := 32#32
  let c0_i32_109 : BitVec 32 := 0#32
  let v141 : BitVec 1 := Scalar.cmpi .sgt c32_i32 c0_i32_109
  let v142 : BitVec 32 := Scalar.extui v141
  let c0_i32_110 : BitVec 32 := 0#32
  let v143 : BitVec 1 := Scalar.cmpi .slt c32_i32 c0_i32_110
  let v144 : BitVec 32 := Scalar.extui v143
  let v145 : BitVec 32 := Scalar.subi v142 v144
  let v146 : BitVec 1 := Scalar.cmpi .ne v140 v145
  let v147 : BitVec 32 := Scalar.remsi v134 c32_i32
  let c0_i32_111 : BitVec 32 := 0#32
  let v148 : BitVec 1 := Scalar.cmpi .ne v147 c0_i32_111
  let v149 : BitVec 1 := Scalar.andi v146 v148
  let v135 : BitVec 32 := Scalar.divsi v134 c32_i32
  let c1_i32_112 : BitVec 32 := 1#32
  let v150 : BitVec 32 := Scalar.subi v135 c1_i32_112
  let v151 : BitVec 32 := Scalar.select v149 v150 v135
  let v163 : Index := Scalar.indexCast v151
  let c32_i32_113 : BitVec 32 := 32#32
  let c0_i32_114 : BitVec 32 := 0#32
  let v152 : BitVec 1 := Scalar.cmpi .eq c32_i32_113 c0_i32_114
  let c1_i32_115 : BitVec 32 := 1#32
  let v153 : BitVec 32 := Scalar.select v152 c1_i32_115 c32_i32_113
  let v154 : BitVec 32 := Scalar.remsi v134 v153
  let c0_i32_117 : BitVec 32 := 0#32
  let v156 : BitVec 1 := Scalar.cmpi .slt v154 c0_i32_117
  let c0_i32_118 : BitVec 32 := 0#32
  let v157 : BitVec 1 := Scalar.cmpi .slt v153 c0_i32_118
  let v158 : BitVec 1 := Scalar.xori v156 v157
  let c0_i32_116 : BitVec 32 := 0#32
  let v155 : BitVec 1 := Scalar.cmpi .ne v154 c0_i32_116
  let v159 : BitVec 1 := Scalar.andi v158 v155
  let v160 : BitVec 32 := Scalar.addi v154 v153
  let v161 : BitVec 32 := Scalar.select v159 v160 v154
  let c16_i32_119 : BitVec 32 := 16#32
  let v162 : BitVec 32 := Scalar.muli v161 c16_i32_119
  let v164 : Index := Scalar.indexCast v162
  ![v163.toNat, v164.toNat]

def k1_chk25 (v172 : IVec S16 32) : Prop :=
  (∀ a x, ((![v172] : Fin 1 → IVec S16 32) a x).toNat < S4096.size a)
theorem k1_idx25_inb : ∀ (v172 : IVec S16 32) (k1_hw25 : k1_chk25 v172), ∀ a x, ((![v172] : Fin 1 → IVec S16 32) a x).toNat < S4096.size a := fun v172 k1_hw25 => k1_hw25

def k1_chk26 (v179 : IVec S16 32) : Prop :=
  (∀ a x, ((![v179] : Fin 1 → IVec S16 32) a x).toNat < S4096.size a)
theorem k1_idx26_inb : ∀ (v179 : IVec S16 32) (k1_hw26 : k1_chk26 v179), ∀ a x, ((![v179] : Fin 1 → IVec S16 32) a x).toNat < S4096.size a := fun v179 k1_hw26 => k1_hw26

def k1_chk27 (v186 : IVec S16 32) : Prop :=
  (∀ a x, ((![v186] : Fin 1 → IVec S16 32) a x).toNat < S4096.size a)
theorem k1_idx27_inb : ∀ (v186 : IVec S16 32) (k1_hw27 : k1_chk27 v186), ∀ a x, ((![v186] : Fin 1 → IVec S16 32) a x).toNat < S4096.size a := fun v186 k1_hw27 => k1_hw27

def k1_chk28 (v193 : IVec S16 32) : Prop :=
  (∀ a x, ((![v193] : Fin 1 → IVec S16 32) a x).toNat < S4096.size a)
theorem k1_idx28_inb : ∀ (v193 : IVec S16 32) (k1_hw28 : k1_chk28 v193), ∀ a x, ((![v193] : Fin 1 → IVec S16 32) a x).toNat < S4096.size a := fun v193 k1_hw28 => k1_hw28
@[reducible] def k1_t9_loop : Scf.Loop 32 :=
  let c0_i32_91 : BitVec 32 := 0#32
  let c512_i32_92 : BitVec 32 := 512#32
  let v128 : BitVec 32 := Scalar.addi c0_i32_91 c512_i32_92
  let c1_i32_93 : BitVec 32 := 1#32
  ⟨c0_i32_91, v128, c1_i32_93⟩
def k1_off10 (k1_t9 : Fin k1_t9_loop.trips) : Fin 2 → Nat :=
  let c0_i32_106 : BitVec 32 := 0#32
  let c0_i32_91 : BitVec 32 := 0#32
  let c1_i32_93 : BitVec 32 := 1#32
  let arg13 : BitVec 32 := Scf.iv c0_i32_91 c1_i32_93 k1_t9
  let c1_i32_105 : BitVec 32 := 1#32
  let v133 : BitVec 32 := Scalar.muli arg13 c1_i32_105
  let v134 : BitVec 32 := Scalar.addi c0_i32_106 v133
  let c0_i32_107 : BitVec 32 := 0#32
  let v136 : BitVec 1 := Scalar.cmpi .sgt v134 c0_i32_107
  let v137 : BitVec 32 := Scalar.extui v136
  let c0_i32_108 : BitVec 32 := 0#32
  let v138 : BitVec 1 := Scalar.cmpi .slt v134 c0_i32_108
  let v139 : BitVec 32 := Scalar.extui v138
  let v140 : BitVec 32 := Scalar.subi v137 v139
  let c32_i32 : BitVec 32 := 32#32
  let c0_i32_109 : BitVec 32 := 0#32
  let v141 : BitVec 1 := Scalar.cmpi .sgt c32_i32 c0_i32_109
  let v142 : BitVec 32 := Scalar.extui v141
  let c0_i32_110 : BitVec 32 := 0#32
  let v143 : BitVec 1 := Scalar.cmpi .slt c32_i32 c0_i32_110
  let v144 : BitVec 32 := Scalar.extui v143
  let v145 : BitVec 32 := Scalar.subi v142 v144
  let v146 : BitVec 1 := Scalar.cmpi .ne v140 v145
  let v147 : BitVec 32 := Scalar.remsi v134 c32_i32
  let c0_i32_111 : BitVec 32 := 0#32
  let v148 : BitVec 1 := Scalar.cmpi .ne v147 c0_i32_111
  let v149 : BitVec 1 := Scalar.andi v146 v148
  let v135 : BitVec 32 := Scalar.divsi v134 c32_i32
  let c1_i32_112 : BitVec 32 := 1#32
  let v150 : BitVec 32 := Scalar.subi v135 c1_i32_112
  let v151 : BitVec 32 := Scalar.select v149 v150 v135
  let v163 : Index := Scalar.indexCast v151
  let c32_i32_113 : BitVec 32 := 32#32
  let c0_i32_114 : BitVec 32 := 0#32
  let v152 : BitVec 1 := Scalar.cmpi .eq c32_i32_113 c0_i32_114
  let c1_i32_115 : BitVec 32 := 1#32
  let v153 : BitVec 32 := Scalar.select v152 c1_i32_115 c32_i32_113
  let v154 : BitVec 32 := Scalar.remsi v134 v153
  let c0_i32_117 : BitVec 32 := 0#32
  let v156 : BitVec 1 := Scalar.cmpi .slt v154 c0_i32_117
  let c0_i32_118 : BitVec 32 := 0#32
  let v157 : BitVec 1 := Scalar.cmpi .slt v153 c0_i32_118
  let v158 : BitVec 1 := Scalar.xori v156 v157
  let c0_i32_116 : BitVec 32 := 0#32
  let v155 : BitVec 1 := Scalar.cmpi .ne v154 c0_i32_116
  let v159 : BitVec 1 := Scalar.andi v158 v155
  let v160 : BitVec 32 := Scalar.addi v154 v153
  let v161 : BitVec 32 := Scalar.select v159 v160 v154
  let c16_i32_119 : BitVec 32 := 16#32
  let v162 : BitVec 32 := Scalar.muli v161 c16_i32_119
  let v164 : Index := Scalar.indexCast v162
  ![v163.toNat, v164.toNat]

def k1_chk29 (v172 : IVec S16 32) : Prop :=
  (∀ a x, ((![v172] : Fin 1 → IVec S16 32) a x).toNat < S4096.size a)
theorem k1_idx29_inb : ∀ (v172 : IVec S16 32) (k1_hw29 : k1_chk29 v172), ∀ a x, ((![v172] : Fin 1 → IVec S16 32) a x).toNat < S4096.size a := fun v172 k1_hw29 => k1_hw29

def k1_chk30 (v179 : IVec S16 32) : Prop :=
  (∀ a x, ((![v179] : Fin 1 → IVec S16 32) a x).toNat < S4096.size a)
theorem k1_idx30_inb : ∀ (v179 : IVec S16 32) (k1_hw30 : k1_chk30 v179), ∀ a x, ((![v179] : Fin 1 → IVec S16 32) a x).toNat < S4096.size a := fun v179 k1_hw30 => k1_hw30

def k1_chk31 (v186 : IVec S16 32) : Prop :=
  (∀ a x, ((![v186] : Fin 1 → IVec S16 32) a x).toNat < S4096.size a)
theorem k1_idx31_inb : ∀ (v186 : IVec S16 32) (k1_hw31 : k1_chk31 v186), ∀ a x, ((![v186] : Fin 1 → IVec S16 32) a x).toNat < S4096.size a := fun v186 k1_hw31 => k1_hw31

def k1_chk32 (v193 : IVec S16 32) : Prop :=
  (∀ a x, ((![v193] : Fin 1 → IVec S16 32) a x).toNat < S4096.size a)
theorem k1_idx32_inb : ∀ (v193 : IVec S16 32) (k1_hw32 : k1_chk32 v193), ∀ a x, ((![v193] : Fin 1 → IVec S16 32) a x).toNat < S4096.size a := fun v193 k1_hw32 => k1_hw32
@[reducible] def k1_t10_loop : Scf.Loop 32 :=
  let c0_i32_96 : BitVec 32 := 0#32
  let c256_i32_97 : BitVec 32 := 256#32
  let v129 : BitVec 32 := Scalar.addi c0_i32_96 c256_i32_97
  let c1_i32_98 : BitVec 32 := 1#32
  ⟨c0_i32_96, v129, c1_i32_98⟩
def k1_off11 (k1_t10 : Fin k1_t10_loop.trips) : Fin 1 → Nat :=
  let c0_i32_96 : BitVec 32 := 0#32
  let c1_i32_98 : BitVec 32 := 1#32
  let arg13 : BitVec 32 := Scf.iv c0_i32_96 c1_i32_98 k1_t10
  let c16_i32_105 : BitVec 32 := 16#32
  let v133 : BitVec 32 := Scalar.muli arg13 c16_i32_105
  let v134 : Index := Scalar.indexCast v133
  ![v134.toNat]
@[reducible] def k1_t11_loop : Scf.Loop 32 :=
  let c0_i32_101 : BitVec 32 := 0#32
  let c16_i32_102 : BitVec 32 := 16#32
  let v131 : BitVec 32 := Scalar.addi c0_i32_101 c16_i32_102
  let c1_i32_103 : BitVec 32 := 1#32
  ⟨c0_i32_101, v131, c1_i32_103⟩

def k1_chk33 (v140 : IVec S16 32) : Prop :=
  (∀ a x, ((![v140] : Fin 1 → IVec S16 32) a x).toNat < S4096.size a)
theorem k1_idx33_inb : ∀ (v140 : IVec S16 32) (k1_hw33 : k1_chk33 v140), ∀ a x, ((![v140] : Fin 1 → IVec S16 32) a x).toNat < S4096.size a := fun v140 k1_hw33 => k1_hw33

def k1_chk34 (v144 : IVec S16 32) : Prop :=
  (∀ a x, ((![v144] : Fin 1 → IVec S16 32) a x).toNat < S4096.size a)
theorem k1_idx34_inb : ∀ (v144 : IVec S16 32) (k1_hw34 : k1_chk34 v144), ∀ a x, ((![v144] : Fin 1 → IVec S16 32) a x).toNat < S4096.size a := fun v144 k1_hw34 => k1_hw34

def k1_chk35 (v148 : IVec S16 32) : Prop :=
  (∀ a x, ((![v148] : Fin 1 → IVec S16 32) a x).toNat < S4096.size a)
theorem k1_idx35_inb : ∀ (v148 : IVec S16 32) (k1_hw35 : k1_chk35 v148), ∀ a x, ((![v148] : Fin 1 → IVec S16 32) a x).toNat < S4096.size a := fun v148 k1_hw35 => k1_hw35

def k1_chk36 (v152 : IVec S16 32) : Prop :=
  (∀ a x, ((![v152] : Fin 1 → IVec S16 32) a x).toNat < S4096.size a)
theorem k1_idx36_inb : ∀ (v152 : IVec S16 32) (k1_hw36 : k1_chk36 v152), ∀ a x, ((![v152] : Fin 1 → IVec S16 32) a x).toNat < S4096.size a := fun v152 k1_hw36 => k1_hw36

def k1_chk37 (v156 : IVec S16 32) : Prop :=
  (∀ a x, ((![v156] : Fin 1 → IVec S16 32) a x).toNat < S4096.size a)
theorem k1_idx37_inb : ∀ (v156 : IVec S16 32) (k1_hw37 : k1_chk37 v156), ∀ a x, ((![v156] : Fin 1 → IVec S16 32) a x).toNat < S4096.size a := fun v156 k1_hw37 => k1_hw37

def k1_chk38 (v160 : IVec S16 32) : Prop :=
  (∀ a x, ((![v160] : Fin 1 → IVec S16 32) a x).toNat < S4096.size a)
theorem k1_idx38_inb : ∀ (v160 : IVec S16 32) (k1_hw38 : k1_chk38 v160), ∀ a x, ((![v160] : Fin 1 → IVec S16 32) a x).toNat < S4096.size a := fun v160 k1_hw38 => k1_hw38

def k1_chk39 (v164 : IVec S16 32) : Prop :=
  (∀ a x, ((![v164] : Fin 1 → IVec S16 32) a x).toNat < S4096.size a)
theorem k1_idx39_inb : ∀ (v164 : IVec S16 32) (k1_hw39 : k1_chk39 v164), ∀ a x, ((![v164] : Fin 1 → IVec S16 32) a x).toNat < S4096.size a := fun v164 k1_hw39 => k1_hw39

def k1_chk40 (v168 : IVec S16 32) : Prop :=
  (∀ a x, ((![v168] : Fin 1 → IVec S16 32) a x).toNat < S4096.size a)
theorem k1_idx40_inb : ∀ (v168 : IVec S16 32) (k1_hw40 : k1_chk40 v168), ∀ a x, ((![v168] : Fin 1 → IVec S16 32) a x).toNat < S4096.size a := fun v168 k1_hw40 => k1_hw40

def k1_chk41 (v172 : IVec S16 32) : Prop :=
  (∀ a x, ((![v172] : Fin 1 → IVec S16 32) a x).toNat < S4096.size a)
theorem k1_idx41_inb : ∀ (v172 : IVec S16 32) (k1_hw41 : k1_chk41 v172), ∀ a x, ((![v172] : Fin 1 → IVec S16 32) a x).toNat < S4096.size a := fun v172 k1_hw41 => k1_hw41

def k1_chk42 (v176 : IVec S16 32) : Prop :=
  (∀ a x, ((![v176] : Fin 1 → IVec S16 32) a x).toNat < S4096.size a)
theorem k1_idx42_inb : ∀ (v176 : IVec S16 32) (k1_hw42 : k1_chk42 v176), ∀ a x, ((![v176] : Fin 1 → IVec S16 32) a x).toNat < S4096.size a := fun v176 k1_hw42 => k1_hw42

def k1_chk43 (v180 : IVec S16 32) : Prop :=
  (∀ a x, ((![v180] : Fin 1 → IVec S16 32) a x).toNat < S4096.size a)
theorem k1_idx43_inb : ∀ (v180 : IVec S16 32) (k1_hw43 : k1_chk43 v180), ∀ a x, ((![v180] : Fin 1 → IVec S16 32) a x).toNat < S4096.size a := fun v180 k1_hw43 => k1_hw43

def k1_chk44 (v184 : IVec S16 32) : Prop :=
  (∀ a x, ((![v184] : Fin 1 → IVec S16 32) a x).toNat < S4096.size a)
theorem k1_idx44_inb : ∀ (v184 : IVec S16 32) (k1_hw44 : k1_chk44 v184), ∀ a x, ((![v184] : Fin 1 → IVec S16 32) a x).toNat < S4096.size a := fun v184 k1_hw44 => k1_hw44

def k1_chk45 (v188 : IVec S16 32) : Prop :=
  (∀ a x, ((![v188] : Fin 1 → IVec S16 32) a x).toNat < S4096.size a)
theorem k1_idx45_inb : ∀ (v188 : IVec S16 32) (k1_hw45 : k1_chk45 v188), ∀ a x, ((![v188] : Fin 1 → IVec S16 32) a x).toNat < S4096.size a := fun v188 k1_hw45 => k1_hw45

def k1_chk46 (v192 : IVec S16 32) : Prop :=
  (∀ a x, ((![v192] : Fin 1 → IVec S16 32) a x).toNat < S4096.size a)
theorem k1_idx46_inb : ∀ (v192 : IVec S16 32) (k1_hw46 : k1_chk46 v192), ∀ a x, ((![v192] : Fin 1 → IVec S16 32) a x).toNat < S4096.size a := fun v192 k1_hw46 => k1_hw46

def k1_chk47 (v196 : IVec S16 32) : Prop :=
  (∀ a x, ((![v196] : Fin 1 → IVec S16 32) a x).toNat < S4096.size a)
theorem k1_idx47_inb : ∀ (v196 : IVec S16 32) (k1_hw47 : k1_chk47 v196), ∀ a x, ((![v196] : Fin 1 → IVec S16 32) a x).toNat < S4096.size a := fun v196 k1_hw47 => k1_hw47

def k1_chk48 (v200 : IVec S16 32) : Prop :=
  (∀ a x, ((![v200] : Fin 1 → IVec S16 32) a x).toNat < S4096.size a)
theorem k1_idx48_inb : ∀ (v200 : IVec S16 32) (k1_hw48 : k1_chk48 v200), ∀ a x, ((![v200] : Fin 1 → IVec S16 32) a x).toNat < S4096.size a := fun v200 k1_hw48 => k1_hw48
def k1_off12 (k1_t11 : Fin k1_t11_loop.trips) : Fin 1 → Nat :=
  let c0_i32_101 : BitVec 32 := 0#32
  let c1_i32_103 : BitVec 32 := 1#32
  let arg13 : BitVec 32 := Scf.iv c0_i32_101 c1_i32_103 k1_t11
  let c16_i32_117 : BitVec 32 := 16#32
  let v203 : BitVec 32 := Scalar.muli arg13 c16_i32_117
  let v204 : Index := Scalar.indexCast v203
  ![v204.toNat]
def k1_off13 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c1_i32 : BitVec 32 := 1#32
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let v2 : BitVec 32 := Scalar.divsi v1 c1_i32
  let c1_i32_4 : BitVec 32 := 1#32
  let v17 : BitVec 32 := Scalar.subi v2 c1_i32_4
  let v18 : BitVec 32 := Scalar.select v16 v17 v2
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c0_i32_105_r0 : BitVec 32 := 0#32
  ![v18.toNat, v28.toNat, 0]
abbrev grid2 : Pipeline.Grid := ⟨1, ![32], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x3x512x512 : Shape := ⟨4, ![32, 3, 512, 512]⟩
abbrev S32x1x512x512 : Shape := ⟨4, ![32, 1, 512, 512]⟩
abbrev S_ : Shape := ⟨0, ![]⟩
abbrev S32x1x1x512 : Shape := ⟨4, ![32, 1, 1, 512]⟩
abbrev S32x1x514x512 : Shape := ⟨4, ![32, 1, 514, 512]⟩
abbrev S32x1x514x1 : Shape := ⟨4, ![32, 1, 514, 1]⟩
abbrev S32x1x514x514 : Shape := ⟨4, ![32, 1, 514, 514]⟩
abbrev S32x512x512 : Shape := ⟨3, ![32, 512, 512]⟩
abbrev S32x8x512x512 : Shape := ⟨4, ![32, 8, 512, 512]⟩
abbrev S8 : Shape := ⟨1, ![8]⟩
abbrev S1x8x1x1 : Shape := ⟨4, ![1, 8, 1, 1]⟩
abbrev S32x262144 : Shape := ⟨2, ![32, 262144]⟩
abbrev S32 : Shape := ⟨1, ![32]⟩
abbrev S32x1 : Shape := ⟨2, ![32, 1]⟩
abbrev S32x256 : Shape := ⟨2, ![32, 256]⟩
abbrev S32x262144x1 : Shape := ⟨3, ![32, 262144, 1]⟩
abbrev S32x262144x2 : Shape := ⟨3, ![32, 262144, 2]⟩

abbrev nBuf : Space → Nat
  | .hbm => 108
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x1x512x512, .f32⟩
  | .hbm, ⟨2, _⟩ => ⟨S_, .f32⟩
  | .hbm, ⟨3, _⟩ => ⟨S32x1x512x512, .f32⟩
  | .hbm, ⟨4, _⟩ => ⟨S32x1x512x512, .f32⟩
  | .hbm, ⟨5, _⟩ => ⟨S32x1x512x512, .f32⟩
  | .hbm, ⟨6, _⟩ => ⟨S_, .f32⟩
  | .hbm, ⟨7, _⟩ => ⟨S32x1x512x512, .f32⟩
  | .hbm, ⟨8, _⟩ => ⟨S32x1x512x512, .f32⟩
  | .hbm, ⟨9, _⟩ => ⟨S32x1x512x512, .f32⟩
  | .hbm, ⟨10, _⟩ => ⟨S32x1x512x512, .f32⟩
  | .hbm, ⟨11, _⟩ => ⟨S_, .f32⟩
  | .hbm, ⟨12, _⟩ => ⟨S32x1x512x512, .f32⟩
  | .hbm, ⟨13, _⟩ => ⟨S32x1x512x512, .f32⟩
  | .hbm, ⟨14, _⟩ => ⟨S32x1x512x512, .f32⟩
  | .hbm, ⟨15, _⟩ => ⟨S32x1x1x512, .f32⟩
  | .hbm, ⟨16, _⟩ => ⟨S32x1x1x512, .f32⟩
  | .hbm, ⟨17, _⟩ => ⟨S32x1x514x512, .f32⟩
  | .hbm, ⟨18, _⟩ => ⟨S32x1x514x1, .f32⟩
  | .hbm, ⟨19, _⟩ => ⟨S32x1x514x1, .f32⟩
  | .hbm, ⟨20, _⟩ => ⟨S32x1x514x514, .f32⟩
  | .hbm, ⟨21, _⟩ => ⟨S32x1x512x512, .f32⟩
  | .hbm, ⟨22, _⟩ => ⟨S32x1x512x512, .i1⟩
  | .hbm, ⟨23, _⟩ => ⟨S32x1x512x512, .f32⟩
  | .hbm, ⟨24, _⟩ => ⟨S32x512x512, .f32⟩
  | .hbm, ⟨25, _⟩ => ⟨S32x1x512x512, .f32⟩
  | .hbm, ⟨26, _⟩ => ⟨S32x1x512x512, .i1⟩
  | .hbm, ⟨27, _⟩ => ⟨S32x1x512x512, .f32⟩
  | .hbm, ⟨28, _⟩ => ⟨S32x512x512, .f32⟩
  | .hbm, ⟨29, _⟩ => ⟨S32x1x512x512, .f32⟩
  | .hbm, ⟨30, _⟩ => ⟨S32x1x512x512, .i1⟩
  | .hbm, ⟨31, _⟩ => ⟨S32x1x512x512, .f32⟩
  | .hbm, ⟨32, _⟩ => ⟨S32x512x512, .f32⟩
  | .hbm, ⟨33, _⟩ => ⟨S32x1x512x512, .f32⟩
  | .hbm, ⟨34, _⟩ => ⟨S32x1x512x512, .i1⟩
  | .hbm, ⟨35, _⟩ => ⟨S32x1x512x512, .f32⟩
  | .hbm, ⟨36, _⟩ => ⟨S32x512x512, .f32⟩
  | .hbm, ⟨37, _⟩ => ⟨S32x1x512x512, .f32⟩
  | .hbm, ⟨38, _⟩ => ⟨S32x1x512x512, .i1⟩
  | .hbm, ⟨39, _⟩ => ⟨S32x1x512x512, .f32⟩
  | .hbm, ⟨40, _⟩ => ⟨S32x512x512, .f32⟩
  | .hbm, ⟨41, _⟩ => ⟨S32x1x512x512, .f32⟩
  | .hbm, ⟨42, _⟩ => ⟨S32x1x512x512, .i1⟩
  | .hbm, ⟨43, _⟩ => ⟨S32x1x512x512, .f32⟩
  | .hbm, ⟨44, _⟩ => ⟨S32x512x512, .f32⟩
  | .hbm, ⟨45, _⟩ => ⟨S32x1x512x512, .f32⟩
  | .hbm, ⟨46, _⟩ => ⟨S32x1x512x512, .i1⟩
  | .hbm, ⟨47, _⟩ => ⟨S32x1x512x512, .f32⟩
  | .hbm, ⟨48, _⟩ => ⟨S32x512x512, .f32⟩
  | .hbm, ⟨49, _⟩ => ⟨S32x1x512x512, .f32⟩
  | .hbm, ⟨50, _⟩ => ⟨S32x1x512x512, .i1⟩
  | .hbm, ⟨51, _⟩ => ⟨S32x1x512x512, .f32⟩
  | .hbm, ⟨52, _⟩ => ⟨S32x512x512, .f32⟩
  | .hbm, ⟨53, _⟩ => ⟨S32x1x512x512, .f32⟩
  | .hbm, ⟨54, _⟩ => ⟨S32x1x512x512, .f32⟩
  | .hbm, ⟨55, _⟩ => ⟨S32x1x512x512, .f32⟩
  | .hbm, ⟨56, _⟩ => ⟨S32x1x512x512, .f32⟩
  | .hbm, ⟨57, _⟩ => ⟨S32x1x512x512, .f32⟩
  | .hbm, ⟨58, _⟩ => ⟨S32x1x512x512, .f32⟩
  | .hbm, ⟨59, _⟩ => ⟨S32x1x512x512, .f32⟩
  | .hbm, ⟨60, _⟩ => ⟨S32x1x512x512, .f32⟩
  | .hbm, ⟨61, _⟩ => ⟨S32x8x512x512, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S1x8x1x1, .f32⟩
  | .hbm, ⟨67, _⟩ => ⟨S32x8x512x512, .f32⟩
  | .hbm, ⟨68, _⟩ => ⟨S32x8x512x512, .f32⟩
  | .hbm, ⟨69, _⟩ => ⟨S_, .f32⟩
  | .hbm, ⟨70, _⟩ => ⟨S32x512x512, .f32⟩
  | .hbm, ⟨71, _⟩ => ⟨S32x512x512, .i32⟩
  | .hbm, ⟨72, _⟩ => ⟨S32x262144, .i32⟩
  | .hbm, ⟨73, _⟩ => ⟨S32, .i32⟩
  | .hbm, ⟨74, _⟩ => ⟨S32x1, .i32⟩
  | .hbm, ⟨75, _⟩ => ⟨S_, .f32⟩
  | .hbm, ⟨76, _⟩ => ⟨S32x256, .f32⟩
  | .hbm, ⟨77, _⟩ => ⟨S_, .i32⟩
  | .hbm, ⟨78, _⟩ => ⟨S32x1, .i32⟩
  | .hbm, ⟨79, _⟩ => ⟨S32x1, .i1⟩
  | .hbm, ⟨80, _⟩ => ⟨S_, .i32⟩
  | .hbm, ⟨81, _⟩ => ⟨S32x1, .i32⟩
  | .hbm, ⟨82, _⟩ => ⟨S32x1, .i32⟩
  | .hbm, ⟨83, _⟩ => ⟨S32x1, .i32⟩
  | .hbm, ⟨84, _⟩ => ⟨S_, .i32⟩
  | .hbm, ⟨85, _⟩ => ⟨S32x262144, .i32⟩
  | .hbm, ⟨86, _⟩ => ⟨S32x262144, .i1⟩
  | .hbm, ⟨87, _⟩ => ⟨S_, .i32⟩
  | .hbm, ⟨88, _⟩ => ⟨S32x262144, .i32⟩
  | .hbm, ⟨89, _⟩ => ⟨S32x262144, .i32⟩
  | .hbm, ⟨90, _⟩ => ⟨S32x262144, .i32⟩
  | .hbm, ⟨91, _⟩ => ⟨S32x262144, .i32⟩
  | .hbm, ⟨92, _⟩ => ⟨S32x262144x1, .i32⟩
  | .hbm, ⟨93, _⟩ => ⟨S32x262144x1, .i32⟩
  | .hbm, ⟨94, _⟩ => ⟨S32x262144x2, .i32⟩
  | .hbm, ⟨95, _⟩ => ⟨S_, .f32⟩
  | .hbm, ⟨96, _⟩ => ⟨S32x262144, .f32⟩
  | .hbm, ⟨97, _⟩ => ⟨S32x256, .f32⟩
  | .hbm, ⟨98, _⟩ => ⟨S32x256, .f32⟩
  | .hbm, ⟨99, _⟩ => ⟨S_, .f32⟩
  | .hbm, ⟨100, _⟩ => ⟨S32, .f32⟩
  | .hbm, ⟨101, _⟩ => ⟨S32x1, .f32⟩
  | .hbm, ⟨102, _⟩ => ⟨S32x1, .f32⟩
  | .hbm, ⟨103, _⟩ => ⟨S_, .f32⟩
  | .hbm, ⟨104, _⟩ => ⟨S32x1, .f32⟩
  | .hbm, ⟨105, _⟩ => ⟨S32x1, .f32⟩
  | .hbm, ⟨106, _⟩ => ⟨S32x256, .f32⟩
  | .hbm, ⟨107, _⟩ => ⟨S32x256, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_cst_2 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_cst_3 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_cst_4 : Ref sig .tc := ⟨.hbm, 75, rfl⟩
abbrev main_v69 : Ref sig .tc := ⟨.hbm, 76, rfl⟩
abbrev main_c : Ref sig .tc := ⟨.hbm, 77, rfl⟩
abbrev main_v70 : Ref sig .tc := ⟨.hbm, 78, rfl⟩
abbrev main_v71 : Ref sig .tc := ⟨.hbm, 79, rfl⟩
abbrev main_c_5 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_c_6 : Ref sig .tc := ⟨.hbm, 84, rfl⟩
abbrev main_v75 : Ref sig .tc := ⟨.hbm, 85, rfl⟩
abbrev main_v76 : Ref sig .tc := ⟨.hbm, 86, rfl⟩
abbrev main_c_7 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_8 : Ref sig .tc := ⟨.hbm, 95, rfl⟩
abbrev main_v84 : Ref sig .tc := ⟨.hbm, 96, rfl⟩
abbrev main_v85 : Ref sig .tc := ⟨.hbm, 97, rfl⟩
abbrev main_call0_v0 : Ref sig .tc := ⟨.hbm, 98, rfl⟩
abbrev main_call0_cst : Ref sig .tc := ⟨.hbm, 99, rfl⟩
abbrev main_call0_v1 : Ref sig .tc := ⟨.hbm, 100, rfl⟩
abbrev main_call0_v2 : Ref sig .tc := ⟨.hbm, 101, rfl⟩
abbrev main_v86 : Ref sig .tc := ⟨.hbm, 102, rfl⟩
abbrev main_cst_9 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩

abbrev nD : Nat := 1
abbrev τ : Topo := Topo.v7x

variable {F : FTy → Type} [FloatOps F]
-- ==== Proof.Offsets.lean ====
/-
  The kernel's computed offsets in closed form: the chunk loops' row and column, the 16-element rows of the
  histograms and of the output scratch, and the row of the codes and of the histograms that a task works on.
-/
module

public import proofs.«01_k».proof.Proof.Gen.KernelIdeal
public import proofs.«01_k».proof.Proof.Gen.KernelIdeal.Skeleton
public import Idealize.ShloMosaic.Lib.Pointwise.Index

@[expose] public section

noncomputable section

namespace Cert.Proof.Lbp

open Cert.KernelIdeal Cert.KernelIdeal.Gen
open Idealize.ShloMosaic

/-- Trip `k` of a chunk loop loads row `k / 32`, columns `16 (k % 32)` on. -/
theorem off3_eq : ∀ k : Fin k1_t2_loop.trips, k1_off3 k = ![k.val / 32, 16 * (k.val % 32)] := by decide +kernel

theorem off1_eq : ∀ k : Fin k1_t1_loop.trips, k1_off1 k = ![16 * k.val] := by decide +kernel
theorem off11_eq : ∀ k : Fin k1_t10_loop.trips, k1_off11 k = ![16 * k.val] := by decide +kernel
theorem off12_eq : ∀ k : Fin k1_t11_loop.trips, k1_off12 k = ![16 * k.val] := by decide +kernel

/-- The image of the task at coordinates `i`: `2 s + c`. -/
def img (i : grid1.Coords) : Fin 32 := ⟨2 * (i 1).val + (i 0).val, by
  have h0 : (i 0).val < 2 := (i 0).isLt
  have h1 : (i 1).val < 16 := (i 1).isLt
  omega⟩

/-- A task's coordinates from their values. -/
def mk (a : Fin 2) (b : Fin 16) : grid1.Coords :=
  fun | 0 => a | 1 => b | ⟨_ + 2, h⟩ => absurd h (Nat.not_lt.2 (Nat.le_add_left _ _))

theorem mk_eta (i : grid1.Coords) : mk (i 0) (i 1) = i := by
  funext a
  match a with
  | 0 => rfl
  | 1 => rfl

theorem off2_mk : ∀ (a : Fin 2) (b : Fin 16) (c : Fin 8),
    k1_off2 (mk a b) (BitVec.ofNat 32 c.val) = ![2 * b.val + a.val, 16 * c.val, 0] := by decide +kernel

theorem off2_eq (i : grid1.Coords) (c : Fin 8) :
    k1_off2 i (BitVec.ofNat 32 c.val) = ![(img i).val, 16 * c.val, 0] := by
  rw [← mk_eta i]; exact off2_mk _ _ c

theorem off13_mk : ∀ (a : Fin 2) (b : Fin 16), k1_off13 (mk a b) = ![2 * b.val + a.val, 0, 0] := by decide +kernel

theorem off13_eq (i : grid1.Coords) : k1_off13 i = ![(img i).val, 0, 0] := by
  rw [← mk_eta i]; exact off13_mk _ _

/-! ## The chunk loops are one loop -/

variable {F : FTy → Type} [FloatOps F]

end Cert.Proof.Lbp

end
-- ==== Proof.Trips.lean ====
/-
  The kernel's eight chunk loops have one body: each is the body of loop `k1_t8`, at its own scratch buffer.
-/
module

public import proofs.«01_k».proof.Proof.Offsets

@[expose] public section

set_option maxRecDepth 16384

noncomputable section

namespace Cert.Proof.Lbp

open Cert.KernelIdeal Cert.KernelIdeal.Gen
open Idealize.ShloMosaic

variable {F : FTy → Type} [FloatOps F] [∀ e, Nonempty (Elt F e)]
variable (i : grid1.Coords)
  (a2 : Memref sig .scVector .hbm S32x128x512 .i32) (h2 : a2.IsWhole)
  (a3 : Memref sig .scVector .hbm S32x1x256 .f32) (h3 : a3.IsWhole)
  (a4 : Memref sig .scVector .vmem S16x512 .i32) (h4 : a4.IsWhole)
  (a5 : Memref sig .scVector .vmem S16x512 .i32) (h5 : a5.IsWhole)
  (a6 : Memref sig .scVector .vmem S4096 .f32) (h6 : a6.IsWhole)
  (a7 : Memref sig .scVector .vmem S4096 .f32) (h7 : a7.IsWhole)
  (a8 : Memref sig .scVector .vmem S4096 .f32) (h8 : a8.IsWhole)
  (a9 : Memref sig .scVector .vmem S4096 .f32) (h9 : a9.IsWhole)
  (a10 : Memref sig .scVector .vmem S256 .f32) (h10 : a10.IsWhole)
  (s11 s12 s13 : DmaSems sig S_)
  (v28 : BitVec 32) (v31 : IVec S16 32) (v32 : FVec F S16 .f32) (v34 c16 : BitVec 32)

theorem part1_eq : k1_part1 (F := F) = k1_part7 (F := F) := by
  rw [k1_part1_eq_skeleton, k1_part7_eq_skeleton]; rfl

theorem part3_eq : k1_part3 (F := F) = k1_part7 (F := F) := by
  rw [k1_part3_eq_skeleton, k1_part7_eq_skeleton]; rfl

theorem part2_eq :
    k1_part2 (F := F) i a2 h2 a3 h3 a4 h4 a5 h5 a6 h6 a7 h7 a8 h8 a9 h9 a10 h10 s11 s12 s13
      = k1_part7 (F := F) i a2 h2 a3 h3 a5 h5 a4 h4 a6 h6 a7 h7 a8 h8 a9 h9 a10 h10 s11 s12 s13 := by
  rw [k1_part2_eq_skeleton, k1_part7_eq_skeleton]; rfl

theorem t2_eq :
    k1_t2_body (F := F) i a2 h2 a3 h3 a4 h4 a5 h5 a6 h6 a7 h7 a8 h8 a9 h9 a10 h10 s11 s12 s13 v28 v31 v32 v34 c16
      = k1_t8_body i a2 h2 a3 h3 a4 h4 a5 h5 a6 h6 a7 h7 a8 h8 a9 h9 a10 h10 s11 s12 s13 v31 v32 := by
  unfold k1_t2_body k1_t8_body
  rw [part1_eq]; rfl

theorem t3_eq :
    k1_t3_body (F := F) i a2 h2 a3 h3 a4 h4 a5 h5 a6 h6 a7 h7 a8 h8 a9 h9 a10 h10 s11 s12 s13 v28 v31 v32 v34 c16
      = k1_t8_body i a2 h2 a3 h3 a5 h5 a4 h4 a6 h6 a7 h7 a8 h8 a9 h9 a10 h10 s11 s12 s13 v31 v32 := by
  unfold k1_t3_body k1_t8_body
  rw [part2_eq]; rfl

theorem t4_eq :
    k1_t4_body (F := F) i a2 h2 a3 h3 a4 h4 a5 h5 a6 h6 a7 h7 a8 h8 a9 h9 a10 h10 s11 s12 s13 v28 v31 v32
      = k1_t8_body i a2 h2 a3 h3 a4 h4 a5 h5 a6 h6 a7 h7 a8 h8 a9 h9 a10 h10 s11 s12 s13 v31 v32 := by
  unfold k1_t4_body k1_t8_body
  rw [part3_eq]; rfl

theorem part4_eq :
    k1_part4 (F := F) i a2 h2 a3 h3 a4 h4 a5 h5 a6 h6 a7 h7 a8 h8 a9 h9 a10 h10 s11 s12 s13
      = k1_part7 (F := F) i a2 h2 a3 h3 a5 h5 a4 h4 a6 h6 a7 h7 a8 h8 a9 h9 a10 h10 s11 s12 s13 := by
  rw [k1_part4_eq_skeleton, k1_part7_eq_skeleton]; rfl

theorem t5_eq :
    k1_t5_body (F := F) i a2 h2 a3 h3 a4 h4 a5 h5 a6 h6 a7 h7 a8 h8 a9 h9 a10 h10 s11 s12 s13 v28 v31 v32
      = k1_t8_body i a2 h2 a3 h3 a5 h5 a4 h4 a6 h6 a7 h7 a8 h8 a9 h9 a10 h10 s11 s12 s13 v31 v32 := by
  unfold k1_t5_body k1_t8_body
  rw [part4_eq]; rfl

theorem part5_eq : k1_part5 (F := F) = k1_part7 (F := F) := by
  rw [k1_part5_eq_skeleton, k1_part7_eq_skeleton]; rfl

theorem t6_eq :
    k1_t6_body (F := F) i a2 h2 a3 h3 a4 h4 a5 h5 a6 h6 a7 h7 a8 h8 a9 h9 a10 h10 s11 s12 s13 v28 v31 v32 v34
      = k1_t8_body i a2 h2 a3 h3 a4 h4 a5 h5 a6 h6 a7 h7 a8 h8 a9 h9 a10 h10 s11 s12 s13 v31 v32 := by
  unfold k1_t6_body k1_t8_body
  rw [part5_eq]; rfl

theorem part6_eq :
    k1_part6 (F := F) i a2 h2 a3 h3 a4 h4 a5 h5 a6 h6 a7 h7 a8 h8 a9 h9 a10 h10 s11 s12 s13
      = k1_part7 (F := F) i a2 h2 a3 h3 a5 h5 a4 h4 a6 h6 a7 h7 a8 h8 a9 h9 a10 h10 s11 s12 s13 := by
  rw [k1_part6_eq_skeleton, k1_part7_eq_skeleton]; rfl

theorem t7_eq :
    k1_t7_body (F := F) i a2 h2 a3 h3 a4 h4 a5 h5 a6 h6 a7 h7 a8 h8 a9 h9 a10 h10 s11 s12 s13 v28 v31 v32 v34
      = k1_t8_body i a2 h2 a3 h3 a5 h5 a4 h4 a6 h6 a7 h7 a8 h8 a9 h9 a10 h10 s11 s12 s13 v31 v32 := by
  unfold k1_t7_body k1_t8_body
  rw [part6_eq]; rfl

theorem part8_eq :
    k1_part8 (F := F) i a2 h2 a3 h3 a4 h4 a5 h5 a6 h6 a7 h7 a8 h8 a9 h9 a10 h10 s11 s12 s13
      = k1_part7 (F := F) i a2 h2 a3 h3 a5 h5 a4 h4 a6 h6 a7 h7 a8 h8 a9 h9 a10 h10 s11 s12 s13 := by
  rw [k1_part8_eq_skeleton, k1_part7_eq_skeleton]; rfl

theorem t9_eq :
    k1_t9_body (F := F) i a2 h2 a3 h3 a4 h4 a5 h5 a6 h6 a7 h7 a8 h8 a9 h9 a10 h10 s11 s12 s13 v31 v32
      = k1_t8_body i a2 h2 a3 h3 a5 h5 a4 h4 a6 h6 a7 h7 a8 h8 a9 h9 a10 h10 s11 s12 s13 v31 v32 := by
  unfold k1_t9_body k1_t8_body
  rw [part8_eq]; rfl

end Cert.Proof.Lbp

end
-- ==== Proof.Setup.lean ====
/-
  Names shared by the proof's modules: the program as the launch theorem sees it, the resource algebra and the
  memrefs of a tile task.
-/
module

public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Trips

@[expose] public section

set_option maxRecDepth 16384

noncomputable section

namespace Cert.Proof.Lbp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## A task's thread, arrays and scratches -/

/-- The thread of the task at coordinates `i`. -/
abbrev thr (d : Dev nD) (i : grid1.Coords) : Thread nD τ := V d ((i 0).castLE hcore1) ((i 1).castLE hsub1)

abbrev cV : Memref sig .scVector .hbm S32x128x512 .i32 := Memref.whole main_v1_scv
abbrev oV : Memref sig .scVector .hbm S32x1x256 .f32 := Memref.whole main_v2_scv
abbrev bA : Memref sig .scVector .vmem S16x512 .i32 := Memref.whole cc1_scratch0
abbrev bB : Memref sig .scVector .vmem S16x512 .i32 := Memref.whole cc1_scratch1
abbrev g0 : Memref sig .scVector .vmem S4096 .f32 := Memref.whole cc1_scratch2
abbrev g1 : Memref sig .scVector .vmem S4096 .f32 := Memref.whole cc1_scratch3
abbrev g2 : Memref sig .scVector .vmem S4096 .f32 := Memref.whole cc1_scratch4
abbrev g3 : Memref sig .scVector .vmem S4096 .f32 := Memref.whole cc1_scratch5
abbrev oS : Memref sig .scVector .vmem S256 .f32 := Memref.whole cc1_scratch6

end Cert.Proof.Lbp

end
-- ==== Proof.Hist.lean ====
/-
  What a task computes, as functions of the array of code words: sixteen words a trip, each word's four bytes counted
  into four histograms of 256 bins by 16 lanes; the four added; a bin's sixteen lanes summed.
-/
module

public import proofs.«01_k».proof.Proof.Offsets

@[expose] public section

set_option maxRecDepth 16384

noncomputable section

namespace Cert.Proof.Lbp

open Cert.KernelIdeal Cert.KernelIdeal.Gen
open Idealize.ShloMosaic

variable {F : FTy → Type} [FloatOps F]

/-- The lane numbers. -/
def lane : IVec S16 32 := iota .scVector S16 32 [0] iota_S16_d0_w32_scVector

theorem lane_apply (x : S16.Idx) : lane x = BitVec.ofNat 32 (x 0).val := by
  unfold lane iota; simp

/-- The bins of the bytes at bit `s` of sixteen words: byte times 16 plus lane. -/
def bin (s : BitVec 32) (w : IVec S16 32) : IVec S16 32 :=
  addi (muli (andi (shrsi w (broadcast S16 s)) (broadcast S16 255#32)) (broadcast S16 16#32)) lane

/-- A byte of a word. -/
def byte (s : BitVec 32) (w : BitVec 32) : ℕ := (IntOp.shrsi .vector w s &&& 255#32).toNat

theorem byte_lt (s w : BitVec 32) : byte s w < 256 := by
  unfold byte
  rw [BitVec.toNat_and]
  exact lt_of_le_of_lt Nat.and_le_right (by decide)

theorem bin_toNat (s : BitVec 32) (w : IVec S16 32) (x : S16.Idx) : (bin s w x).toNat = 16 * byte s (w x) + (x 0).val := by
  have hb := byte_lt s (w x)
  have hx : (x 0).val < 16 := (x 0).isLt
  show ((IntOp.shrsi .vector (w x) s &&& 255#32) * 16#32 + lane x).toNat = _
  rw [lane_apply, BitVec.toNat_add, BitVec.toNat_mul]
  change (byte s (w x) * 16 % 2 ^ 32 + (x 0).val % 2 ^ 32) % 2 ^ 32 = _
  omega

theorem bin_inb (s : BitVec 32) (w : IVec S16 32) : ∀ a x, ((![bin s w] : Fin 1 → IVec S16 32) a x).toNat < S4096.size a := by
  intro a x
  obtain rfl : a = 0 := Subsingleton.elim _ _
  show (bin s w x).toNat < 4096
  have hb := byte_lt s (w x)
  have hx : (x 0).val < 16 := (x 0).isLt
  rw [bin_toNat]; omega

/-- The ones every scatter adds. -/
abbrev ones : FVec F S16 .f32 := k1_pay44

/-- The histogram after one more sixteen words. -/
def step (s : BitVec 32) (w : IVec S16 32) (f : Vec F S4096 .f32) : Vec F S4096 .f32 :=
  storeIdx f ![bin s w] ones (fun _ => 1#1) true (bin_inb s w)

/-- The sixteen words of trip `n` of image `im`. -/
def words (C : S32x128x512.Idx → BitVec 32) (im : Fin 32) (n : ℕ) : IVec S16 32 := fun x =>
  C (ix3 im ⟨n / 32 % 128, Nat.mod_lt _ (by decide)⟩ ⟨16 * (n % 32) + (x 0).val, by
    have hx : (x 0).val < 16 := (x 0).isLt
    omega⟩)

/-- The histogram of the bytes at bit `s` after `n` trips. -/
def hist (C : S32x128x512.Idx → BitVec 32) (im : Fin 32) (s : BitVec 32) : ℕ → Vec F S4096 .f32
  | 0 => broadcast S4096 (Scalar.ofBits .f32 0x00000000#32)
  | n + 1 => step s (words C im n) (hist C im s n)

theorem hist_succ (C : S32x128x512.Idx → BitVec 32) (im : Fin 32) (s : BitVec 32) (n : ℕ) :
    hist (F := F) C im s (n + 1) = step s (words C im n) (hist C im s n) := rfl

/-- The four histograms added. -/
def merged (C : S32x128x512.Idx → BitVec 32) (im : Fin 32) : FVec F S4096 .f32 :=
  addf (addf (hist C im 0#32 4096) (hist C im 8#32 4096)) (addf (hist C im 16#32 4096) (hist C im 24#32 4096))

/-- Lane `j` of the bins `16 t` to `16 t + 15`. -/
def lanes (M : Vec F S4096 .f32) (t j : ℕ) : Vec F S16 .f32 := fun x => M (ix1 ⟨(16 * (16 * t + (x 0).val) + j) % 4096, Nat.mod_lt _ (by decide)⟩)

/-- The sums of the bins `16 t` to `16 t + 15`. -/
def fold (M : Vec F S4096 .f32) (t : ℕ) : FVec F S16 .f32 :=
  k1_pay15 (k1_pay41 (lanes M t 0) (lanes M t 1) (lanes M t 2) (lanes M t 3) (lanes M t 4) (lanes M t 5) (lanes M t 6) (lanes M t 7))
    (lanes M t 8) (lanes M t 9) (lanes M t 10) (lanes M t 11) (lanes M t 12) (lanes M t 13) (lanes M t 14) (lanes M t 15)

/-- An image's histogram. -/
def outRow (C : S32x128x512.Idx → BitVec 32) (im : Fin 32) : Vec F S256 .f32 := fun b =>
  fold (merged C im) ((b 0).val / 16) (ix1 ⟨(b 0).val % 16, Nat.mod_lt _ (by decide)⟩)

/-- Chunk `c` of an image's words, as a task's scratch holds it. -/
def chunk (C : S32x128x512.Idx → BitVec 32) (im : Fin 32) (c : ℕ) : S16x512.Idx → BitVec 32 := fun x =>
  C (ix3 im ⟨(16 * c + (x 0).val) % 128, Nat.mod_lt _ (by decide)⟩ (x 1))

end Cert.Proof.Lbp

end
-- ==== Proof.Loops.lean ====
/-
  The loops of a task: the histograms zeroed, a chunk's words counted, the four histograms added, the lanes summed.
-/
module

public import proofs.«01_k».proof.Proof.Setup
public import proofs.«01_k».proof.Proof.Hist
public import Idealize.ShloMosaic.Lib.Pointwise

@[expose] public section

set_option maxRecDepth 16384

noncomputable section

namespace Cert.Proof.Lbp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

variable (d : Dev nD) (i : grid1.Coords)

/-- The words of a trip, read from the chunk's buffer. -/
theorem words_of_chunk {C : S32x128x512.Idx → BitVec 32} {im : Fin 32} {c : ℕ} (hc : c < 8) (k : Fin k1_t8_loop.trips)
    (ld : Vec F S1x16 .i32)
    (hld : ∀ x, ld x = chunk C im c ((Rect.unit (s := S16x512) (k1_off9 k) S1x16.size (k1_off9_inb k)).toLoadRect.idx x)) :
    shapeCast S16 ld shapeCasts_S1x16_S16 = words C im (512 * c + k.val) := by
  have hk : k.val < 512 := lt_of_lt_of_le k.isLt (by decide)
  have ho : k1_off9 k = ![k.val / 32, 16 * (k.val % 32)] := off3_eq k
  funext x
  idx_vars x
  have e : shapeCast S16 ld shapeCasts_S1x16_S16 (ix1 x0) = ld (ix2 0 x0) := by
    pointwise
  rw [e, hld]
  unfold chunk words
  congr 1
  have ho0 : k1_off9 k 0 = k.val / 32 := by rw [ho]; rfl
  have ho1 : k1_off9 k 1 = 16 * (k.val % 32) := by rw [ho]; rfl
  apply congrArg₂ (ix3 im) <;> apply Fin.ext
  · show (16 * c + (k1_off9 k 0 + 1 * 0)) % 128 = (512 * c + k.val) / 32 % 128
    rw [ho0]; omega
  · show (k1_off9 k 1 + 1 * x0.val) = 16 * ((512 * c + k.val) % 32) + x0.val
    rw [ho1]; omega

/-- The four histograms after `n` trips. -/
def histPts (C : S32x128x512.Idx → BitVec 32) (n : ℕ) : sProp 𝕄 :=
  iprop((g0.view.loc (thr d i) ↦{fullShare} hist C (img i) 0#32 n) ∗ (g1.view.loc (thr d i) ↦{fullShare} hist C (img i) 8#32 n)
    ∗ (g2.view.loc (thr d i) ↦{fullShare} hist C (img i) 16#32 n) ∗ (g3.view.loc (thr d i) ↦{fullShare} hist C (img i) 24#32 n))

/-- A check that holds and the scatter of ones into a histogram that follows it. -/
theorem wp_scatter {α : Type} (g : Memref sig .scVector .vmem S4096 .f32) (hset : (g.access (.whole S4096)).set = Finset.univ)
    (hread : ∀ f, (g.access (.whole S4096)).read (Elt F) f = g.view.read (Elt F) f)
    (f : Buf (Elt F) (g.view.loc (thr d i))) (s : BitVec 32) (w : IVec S16 32) {v : IVec S16 32} (hv : v = bin s w)
    {f' : Buf (Elt F) (g.view.loc (thr d i))} (hf : (g.access (.whole S4096)).write (Elt F) f (step s w (g.view.read (Elt F) f)) Finset.univ = f')
    (h : ∀ a x, ((![v] : Fin 1 → IVec S16 32) a x).toNat < S4096.size a)
    (hs : (g.access (.whole S4096)).Stores Finset.univ)
    (k : PUnit → Prog (TpuEff nD τ sig (Elt F) Λ₀ (thr d i).2) α) (Q : α → sProp 𝕄) :
    (g.view.loc (thr d i) ↦{fullShare} f)
      ⊢ iprop(((g.view.loc (thr d i) ↦{fullShare} f')
            -∗ wp frame (wpE (defs₀ (F := F)) 𝒱₀ (thr d i) none) Set.univ (k ⟨⟩) Q)
          -∗ wp frame (wpE (defs₀ (F := F)) 𝒱₀ (thr d i) none) Set.univ (SparseCore.vectorStoreIdx g ![v] ones (fun _ => 1#1) true h hs >>= k) Q) := by
  subst hv hf
  have H := SparseCore.wp_vectorStoreIdx (defs := defs₀ (F := F)) 𝒱₀ (thr d i) none Set.univ (base := g) (idxs := ![bin s w]) (v := ones) (mask := fun _ => 1#1)
    (add := true) (h := h) (hs := hs) (k := k) (f := f) (Q := Q)
  rw [hset, hread] at H
  exact H

/-- The invariant of the loop over chunk `c`, held in the memref `a` as `G`: the histograms after `512 c + n` trips. -/
def countInv (C : S32x128x512.Idx → BitVec 32) (c : ℕ) (a : Memref sig .scVector .vmem S16x512 .i32)
    (G : Buf (Elt F) (a.view.loc (thr d i))) (n : ℕ) (_ : Unit) : sProp 𝕄 :=
  iprop((a.view.loc (thr d i) ↦{fullShare} G) ∗ histPts d i C (512 * c + n))

/-- One trip of a chunk loop. -/
theorem trip {C : S32x128x512.Idx → BitVec 32} {c : ℕ} (hc : c < 8)
    (a4 : Memref sig .scVector .vmem S16x512 .i32) (h4 : a4.IsWhole) (a5 : Memref sig .scVector .vmem S16x512 .i32) (h5 : a5.IsWhole)
    (G : Buf (Elt F) (a4.view.loc (thr d i))) (hG : a4.view.read (Elt F) G = chunk C (img i) c)
    (k : Fin k1_t8_loop.trips) (acc : Unit) :
    countInv d i C c a4 G k.val acc
      ⊢ wp frame (wpE (defs₀ (F := F)) 𝒱₀ (thr d i) none) Set.univ
          (k1_t8_body (F := F) i cV (Memref.isWhole_whole _) oV (Memref.isWhole_whole _) a4 h4 a5 h5 g0 (Memref.isWhole_whole _)
            g1 (Memref.isWhole_whole _) g2 (Memref.isWhole_whole _) g3 (Memref.isWhole_whole _) oS (Memref.isWhole_whole _)
            cc1_scratch7 cc1_scratch8 cc1_scoped0 lane ones k acc)
          (countInv d i C c a4 G (k.val + 1)) := by
  unfold countInv histPts k1_t8_body
  rw [k1_part7_eq_skeleton]
  unfold k1_part7_skel
  iintro ⟨Ha, H0, H1, H2, H3⟩
  sl_exec
  have hw := words_of_chunk (F := F) (C := C) (im := img i) hc k (a4.view.readAt (Elt F) (Rect.unit (s := S16x512) (k1_off9 k) S1x16.size (k1_off9_inb k)).toLoadRect G)
    (fun x => by rw [View.readAt_apply, hG])
  set w := words C (img i) (512 * c + k.val) with hwd
  set W := k1_pay28 (View.readAt (Elt F) a4.view (Rect.unit (s := S16x512) (k1_off9 k) S1x16.size (k1_off9_inb k)).toLoadRect G) with hWd
  have e0 : trip.sl.v172 d i a4 G k = bin 0#32 w := by rw [← hw]; rfl
  have e1 : W = w := hw
  have e2 : k1_pay1 (F := F) lane W = bin 8#32 w := by rw [e1]; rfl
  have e3 : k1_pay2 (F := F) lane W = bin 16#32 w := by rw [e1]; rfl
  have e4 : k1_pay3 (F := F) lane W = bin 24#32 w := by rw [e1]; rfl
  rw [wp_assume_of _ _ _ _ (show k1_chk25 (trip.sl.v172 d i a4 G k) from by rw [e0]; exact bin_inb _ _)]
  iapply (wp_scatter d i g0 (Memref.set_access_whole cc1_scratch2) (Memref.read_access_whole (Elt F) cc1_scratch2) _ 0#32 w e0 (f' := hist C (img i) 0#32 (512 * c + k.val + 1)) ((Memref.write_access_whole_univ (Elt F) cc1_scratch2 _ _).trans rfl)) $$ H0
  iintro H0
  sl_exec
  rw [wp_assume_of _ _ _ _ (show k1_chk26 (k1_pay1 (F := F) lane W) from by rw [e2]; exact bin_inb _ _)]
  iapply (wp_scatter d i g1 (Memref.set_access_whole cc1_scratch3) (Memref.read_access_whole (Elt F) cc1_scratch3) _ 8#32 w e2 (f' := hist C (img i) 8#32 (512 * c + k.val + 1)) ((Memref.write_access_whole_univ (Elt F) cc1_scratch3 _ _).trans rfl)) $$ H1
  iintro H1
  sl_exec
  rw [wp_assume_of _ _ _ _ (show k1_chk27 (k1_pay2 (F := F) lane W) from by rw [e3]; exact bin_inb _ _)]
  iapply (wp_scatter d i g2 (Memref.set_access_whole cc1_scratch4) (Memref.read_access_whole (Elt F) cc1_scratch4) _ 16#32 w e3 (f' := hist C (img i) 16#32 (512 * c + k.val + 1)) ((Memref.write_access_whole_univ (Elt F) cc1_scratch4 _ _).trans rfl)) $$ H2
  iintro H2
  sl_exec
  rw [wp_assume_of _ _ _ _ (show k1_chk28 (k1_pay3 (F := F) lane W) from by rw [e4]; exact bin_inb _ _)]
  iapply (wp_scatter d i g3 (Memref.set_access_whole cc1_scratch5) (Memref.read_access_whole (Elt F) cc1_scratch5) _ 24#32 w e4 (f' := hist C (img i) 24#32 (512 * c + k.val + 1)) ((Memref.write_access_whole_univ (Elt F) cc1_scratch5 _ _).trans rfl)) $$ H3
  iintro H3
  sl_exec
  sl_step
  rw [← Nat.add_assoc]
  isplitl [Ha]; · iexact Ha
  isplitl [H0]; · iexact H0
  isplitl [H1]; · iexact H1
  isplitl [H2]; · iexact H2
  iexact H3

/-! ## Sixteen elements stored into a one-axis buffer -/

section Rows

variable {N : ℕ} {κ : Kind} {sp : Space} (v : View sig κ sp ⟨1, ![N]⟩ .f32) (f : v.ty.Contents (Elt F))
  {off : Fin 1 → ℕ} {k : ℕ} (ho : off = ![16 * k]) (inb : ∀ a, off a + S16.size a ≤ (⟨1, ![N]⟩ : Shape).size a) (w : S16.Idx → Elt F .f32)

omit [FloatOps F] [∀ e, Nonempty (Elt F e)] in
include ho in
/-- Row `k` stored, the elements from `16 (k + 1)` on and those before `16 k` stay. -/
theorem row_miss (e : Fin N) (h : e.val < 16 * k ∨ 16 * (k + 1) ≤ e.val) :
    v.read (Elt F) (v.writes (Elt F) f [⟨Rect.unit (s := ⟨1, ![N]⟩) off S16.size inb, w⟩]) (ix1 e) = v.read (Elt F) f (ix1 e) := by
  rw [View.read_writes_cons_miss_of_axis v f _ _ _ 0 (16 * k) 16 (by subst ho; rfl) rfl rfl (by show e.val < _ ∨ _ ≤ e.val; omega)]
  rfl

omit [FloatOps F] [∀ e, Nonempty (Elt F e)] in
include ho in
/-- Row `k` stored, the elements below `16 (k + 1)` are those of `G`. -/
theorem row_hit (G : Fin N → Elt F .f32) (hw : ∀ (x : Fin 16) (h : 16 * k + x.val < N), w (ix1 x) = G ⟨16 * k + x.val, h⟩)
    (hf : ∀ e : Fin N, e.val < 16 * k → v.read (Elt F) f (ix1 e) = G e) (e : Fin N) (h : e.val < 16 * (k + 1)) :
    v.read (Elt F) (v.writes (Elt F) f [⟨Rect.unit (s := ⟨1, ![N]⟩) off S16.size inb, w⟩]) (ix1 e) = G e := by
  by_cases h0 : e.val < 16 * k
  · rw [row_miss v f ho inb w e (.inl h0), hf e h0]
  · have hx : e.val - 16 * k < 16 := by omega
    rw [View.read_writes_cons_hit_of_coords v f (Rect.unit (s := ⟨1, ![N]⟩) off S16.size inb) w [] (ix1 ⟨e.val - 16 * k, hx⟩) (ix1 e) (fun a => by
      obtain rfl : a = 0 := Subsingleton.elim _ _
      subst ho
      show e.val = 16 * k + 1 * (e.val - 16 * k)
      omega)]
    have he : 16 * k + (⟨e.val - 16 * k, hx⟩ : Fin 16).val < N := by
      show 16 * k + (e.val - 16 * k) < N
      have := e.isLt; omega
    rw [hw _ he]
    congr 1
    apply Fin.ext
    show 16 * k + (e.val - 16 * k) = e.val
    omega

omit [FloatOps F] [∀ e, Nonempty (Elt F e)] in
include ho in
/-- Row `k` loaded. -/
theorem row_load (x : Fin 16) (h : 16 * k + x.val < N) :
    v.readAt (Elt F) (Rect.unit (s := ⟨1, ![N]⟩) off S16.size inb).toLoadRect f (ix1 x) = v.read (Elt F) f (ix1 ⟨16 * k + x.val, h⟩) := by
  rw [View.readAt_apply]
  congr 1
  funext a
  obtain rfl : a = 0 := Subsingleton.elim _ _
  subst ho
  apply Fin.ext
  show 16 * k + 1 * x.val = 16 * k + x.val
  omega

end Rows

/-! ## The histograms zeroed -/

/-- The four histograms, zero below `16 n`. -/
def zeroInv (n : ℕ) (_ : BitVec 32) : sProp 𝕄 :=
  iprop((∃ f : Vec F S4096 .f32, ⌜∀ e : Fin 4096, e.val < 16 * n → f (ix1 e) = Scalar.ofBits .f32 0x00000000#32⌝ ∗ (g0.view.loc (thr d i) ↦{fullShare} f))
    ∗ (∃ f : Vec F S4096 .f32, ⌜∀ e : Fin 4096, e.val < 16 * n → f (ix1 e) = Scalar.ofBits .f32 0x00000000#32⌝ ∗ (g1.view.loc (thr d i) ↦{fullShare} f))
    ∗ (∃ f : Vec F S4096 .f32, ⌜∀ e : Fin 4096, e.val < 16 * n → f (ix1 e) = Scalar.ofBits .f32 0x00000000#32⌝ ∗ (g2.view.loc (thr d i) ↦{fullShare} f))
    ∗ (∃ f : Vec F S4096 .f32, ⌜∀ e : Fin 4096, e.val < 16 * n → f (ix1 e) = Scalar.ofBits .f32 0x00000000#32⌝ ∗ (g3.view.loc (thr d i) ↦{fullShare} f)))

/-- One trip of the zeroing loop. -/
theorem zeroTrip (k : Fin k1_t1_loop.trips) (acc : BitVec 32) :
    zeroInv (F := F) d i k.val acc
      ⊢ wp frame (wpE (defs₀ (F := F)) 𝒱₀ (thr d i) none) Set.univ
          (k1_t1_body (F := F) i cV (Memref.isWhole_whole _) oV (Memref.isWhole_whole _) bA (Memref.isWhole_whole _) bB (Memref.isWhole_whole _) g0 (Memref.isWhole_whole _)
            g1 (Memref.isWhole_whole _) g2 (Memref.isWhole_whole _) g3 (Memref.isWhole_whole _) oS (Memref.isWhole_whole _)
            cc1_scratch7 cc1_scratch8 cc1_scoped0 k acc)
          (zeroInv d i (k.val + 1)) := by
  unfold zeroInv k1_t1_body
  iintro ⟨⟨%f0, %hf0, H0⟩, ⟨%f1, %hf1, H1⟩, ⟨%f2, %hf2, H2⟩, %f3, %hf3, H3⟩
  sl_exec
  sl_step
  have ho := off1_eq k
  isplitl [H0]
  · iexists _; isplitr
    swap
    · iexact H0
    · ipureintro; exact row_hit g0.view f0 ho (k1_off1_inb k) _ (fun _ => Scalar.ofBits .f32 0x00000000#32) (fun _ _ => rfl) hf0
  isplitl [H1]
  · iexists _; isplitr
    swap
    · iexact H1
    · ipureintro; exact row_hit g1.view f1 ho (k1_off1_inb k) _ (fun _ => Scalar.ofBits .f32 0x00000000#32) (fun _ _ => rfl) hf1
  isplitl [H2]
  · iexists _; isplitr
    swap
    · iexact H2
    · ipureintro; exact row_hit g2.view f2 ho (k1_off1_inb k) _ (fun _ => Scalar.ofBits .f32 0x00000000#32) (fun _ _ => rfl) hf2
  · iexists _; isplitr
    swap
    · iexact H3
    · ipureintro; exact row_hit g3.view f3 ho (k1_off1_inb k) _ (fun _ => Scalar.ofBits .f32 0x00000000#32) (fun _ _ => rfl) hf3

/-- After the last trip the histograms are those of no words. -/
theorem zeroInv_last (C : S32x128x512.Idx → BitVec 32) (acc : BitVec 32) : zeroInv (F := F) d i k1_t1_loop.trips acc ⊢ histPts d i C 0 := by
  have hz : ∀ (f : Vec F S4096 .f32) (s : BitVec 32), (∀ e : Fin 4096, e.val < 16 * k1_t1_loop.trips → f (ix1 e) = Scalar.ofBits .f32 0x00000000#32)
      → f = hist C (img i) s 0 := by
    intro f s hf
    funext x
    rw [← ix1_eta x]
    have ht : k1_t1_loop.trips = 256 := by decide
    exact hf _ (by have := (x 0).isLt; rw [ht]; exact this)
  unfold zeroInv histPts
  iintro ⟨⟨%f0, %hf0, H0⟩, ⟨%f1, %hf1, H1⟩, ⟨%f2, %hf2, H2⟩, %f3, %hf3, H3⟩
  rw [← hz f0 0#32 hf0, ← hz f1 8#32 hf1, ← hz f2 16#32 hf2, ← hz f3 24#32 hf3]
  isplitl [H0]; · iexact H0
  isplitl [H1]; · iexact H1
  isplitl [H2]; · iexact H2
  iexact H3

/-! ## The histograms added -/

/-- The first histogram, the sum below `16 n` and its own from there on; the other three as they are. -/
def mergeInv (C : S32x128x512.Idx → BitVec 32) (n : ℕ) (_ : BitVec 32) : sProp 𝕄 :=
  iprop((∃ f : Vec F S4096 .f32, ⌜(∀ e : Fin 4096, e.val < 16 * n → f (ix1 e) = merged C (img i) (ix1 e))
        ∧ ∀ e : Fin 4096, 16 * n ≤ e.val → f (ix1 e) = hist C (img i) 0#32 4096 (ix1 e)⌝ ∗ (g0.view.loc (thr d i) ↦{fullShare} f))
    ∗ (g1.view.loc (thr d i) ↦{fullShare} hist C (img i) 8#32 4096)
    ∗ (g2.view.loc (thr d i) ↦{fullShare} hist C (img i) 16#32 4096) ∗ (g3.view.loc (thr d i) ↦{fullShare} hist C (img i) 24#32 4096))

/-- One trip of the adding loop. -/
theorem mergeTrip (C : S32x128x512.Idx → BitVec 32) (k : Fin k1_t10_loop.trips) (acc : BitVec 32) :
    mergeInv (F := F) d i C k.val acc
      ⊢ wp frame (wpE (defs₀ (F := F)) 𝒱₀ (thr d i) none) Set.univ
          (k1_t10_body (F := F) i cV (Memref.isWhole_whole _) oV (Memref.isWhole_whole _) bA (Memref.isWhole_whole _) bB (Memref.isWhole_whole _) g0 (Memref.isWhole_whole _)
            g1 (Memref.isWhole_whole _) g2 (Memref.isWhole_whole _) g3 (Memref.isWhole_whole _) oS (Memref.isWhole_whole _)
            cc1_scratch7 cc1_scratch8 cc1_scoped0 k acc)
          (mergeInv d i C (k.val + 1)) := by
  unfold mergeInv k1_t10_body
  iintro ⟨⟨%f, %hf, H0⟩, H1, H2, H3⟩
  obtain ⟨hlo, hhi⟩ := hf
  have ho := off11_eq k
  sl_exec
  sl_step
  isplitl [H0]
  · iexists _; isplitr
    swap
    · iexact H0
    · ipureintro
      refine ⟨row_hit g0.view f ho (k1_off11_inb k) _ (fun e => merged C (img i) (ix1 e)) (fun x h => ?_) hlo, fun e he => ?_⟩
      · have e0 : g0.view.readAt (Elt F) (Rect.unit (s := S4096) (k1_off11 k) S16.size (k1_off11_inb k)).toLoadRect f (ix1 x) = _ :=
          (row_load g0.view f ho (k1_off11_inb k) x h).trans (hhi ⟨16 * k.val + x.val, h⟩ (Nat.le_add_right _ _))
        have e1 := row_load g1.view (hist (F := F) C (img i) 8#32 4096) ho (k1_off11_inb k) x h
        have e2 := row_load g2.view (hist (F := F) C (img i) 16#32 4096) ho (k1_off11_inb k) x h
        have e3 := row_load g3.view (hist (F := F) C (img i) 24#32 4096) ho (k1_off11_inb k) x h
        exact congrArg₂ FloatOps.addf (congrArg₂ FloatOps.addf e0 e1) (congrArg₂ FloatOps.addf e2 e3)
      · exact (row_miss g0.view f ho (k1_off11_inb k) _ e (.inr he)).trans (hhi e (by omega))
  isplitl [H1]; · iexact H1
  isplitl [H2]; · iexact H2
  iexact H3

end Cert.Proof.Lbp

end
-- ==== Proof.Fold.lean ====
/-
  The last loop of a task: sixteen bins a trip, each the sum of its sixteen lanes.
-/
module

public import proofs.«01_k».proof.Proof.Loops

@[expose] public section

set_option maxRecDepth 16384

noncomputable section

namespace Cert.Proof.Lbp

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

variable (d : Dev nD) (i : grid1.Coords)

/-- The places lane `j` of bins `16 t` to `16 t + 15` stands at. -/
def place (t : Fin k1_t11_loop.trips) (j : ℕ) : IVec S16 32 := addi (k1_pay32 lane 0#32 1#32 t) (broadcast S16 (BitVec.ofNat 32 j))

theorem place_toNat (t : Fin k1_t11_loop.trips) {j : ℕ} (hj : j < 16) (x : S16.Idx) :
    (place t j x).toNat = 16 * (16 * t.val + (x 0).val) + j := by
  have ht : t.val < 16 := lt_of_lt_of_le t.isLt (by decide)
  have hx : (x 0).val < 16 := (x 0).isLt
  have hiv : ∀ t : Fin k1_t11_loop.trips, Scalar.muli (Scf.iv 0#32 1#32 t) 16#32 = BitVec.ofNat 32 (16 * t.val) := by decide +kernel
  show (((Scalar.muli (Scf.iv 0#32 1#32 t) 16#32 + lane x) * 16#32) + BitVec.ofNat 32 j).toNat = _
  rw [hiv, lane_apply]
  simp only [BitVec.toNat_add, BitVec.toNat_mul, BitVec.toNat_ofNat]
  omega

theorem place_inb (t : Fin k1_t11_loop.trips) {j : ℕ} (hj : j < 16) : ∀ a x, ((![place t j] : Fin 1 → IVec S16 32) a x).toNat < S4096.size a := by
  intro a x
  obtain rfl : a = 0 := Subsingleton.elim _ _
  show (place t j x).toNat < 4096
  have ht : t.val < 16 := lt_of_lt_of_le t.isLt (by decide)
  have hx : (x 0).val < 16 := (x 0).isLt
  rw [place_toNat t hj]; omega

theorem loadIdx_place (M : Vec F S4096 .f32) (t : Fin k1_t11_loop.trips) {j : ℕ} (hj : j < 16)
    (h : ∀ a x, ((![place t j] : Fin 1 → IVec S16 32) a x).toNat < S4096.size a) : loadIdx M ![place t j] h = lanes M t.val j := by
  funext x
  have ht : t.val < 16 := lt_of_lt_of_le t.isLt (by decide)
  have hx : (x 0).val < 16 := (x 0).isLt
  unfold loadIdx lanes
  congr 1
  funext a
  obtain rfl : a = 0 := Subsingleton.elim _ _
  apply Fin.ext
  show (place t j x).toNat = (16 * (16 * t.val + (x 0).val) + j) % 4096
  rw [place_toNat t hj]; omega

/-- A check that holds. -/
theorem wp_check {α : Type} {P : Prop} {dec : Decidable P} (h : P)
    (k : PLift P → Prog (TpuEff nD τ sig (Elt F) Λ₀ (thr d i).2) α) (Q : α → sProp 𝕄) :
    wp frame (wpE (defs₀ (F := F)) 𝒱₀ (thr d i) none) Set.univ (k ⟨h⟩) Q
      ⊢ wp frame (wpE (defs₀ (F := F)) 𝒱₀ (thr d i) none) Set.univ (.op (.assume P dec) k) Q := by
  rw [wp_assume_of _ _ _ _ h]

/-- A gather of one lane of sixteen bins. -/
theorem wp_gather {α : Type} (M : Vec F S4096 .f32) (t : Fin k1_t11_loop.trips) {j : ℕ} (hj : j < 16)
    {v : IVec S16 32} (hv : v = place t j) (h : ∀ a x, ((![v] : Fin 1 → IVec S16 32) a x).toNat < S4096.size a) (hl : g0.view.Loads)
    (k : Vec F S16 .f32 → Prog (TpuEff nD τ sig (Elt F) Λ₀ (thr d i).2) α) (Q : α → sProp 𝕄) :
    (g0.view.loc (thr d i) ↦{fullShare} M)
      ⊢ iprop(((g0.view.loc (thr d i) ↦{fullShare} M)
            -∗ wp frame (wpE (defs₀ (F := F)) 𝒱₀ (thr d i) none) Set.univ (k (lanes M t.val j)) Q)
          -∗ wp frame (wpE (defs₀ (F := F)) 𝒱₀ (thr d i) none) Set.univ (SparseCore.vectorLoadIdx g0 ![v] h hl >>= k) Q) := by
  subst hv
  have H := SparseCore.wp_vectorLoadIdx (defs := defs₀ (F := F)) 𝒱₀ (thr d i) none Set.univ (base := g0) (idxs := ![place t j])
    (h := h) (hl := hl) (k := k) (S := Finset.univ) (q := fullShare) (f := M) (Q := Q) (Finset.subset_univ _)
  have e : (g0.access (.whole S4096)).read (Elt F) M = M := Memref.read_access_whole (Elt F) cc1_scratch2 M
  rw [e, loadIdx_place M t hj] at H
  exact H

/-- The four histograms' sum, and the sums of the bins below `16 n`. -/
def foldInv (C : S32x128x512.Idx → BitVec 32) (n : ℕ) (_ : BitVec 32) : sProp 𝕄 :=
  iprop((g0.view.loc (thr d i) ↦{fullShare} merged C (img i))
    ∗ ∃ f : Vec F S256 .f32, ⌜∀ e : Fin 256, e.val < 16 * n → f (ix1 e) = outRow C (img i) (ix1 e)⌝ ∗ (oS.view.loc (thr d i) ↦{fullShare} f))

/-- One trip of the summing loop. -/
theorem foldTrip (C : S32x128x512.Idx → BitVec 32) (k : Fin k1_t11_loop.trips) (acc : BitVec 32) :
    foldInv (F := F) d i C k.val acc
      ⊢ wp frame (wpE (defs₀ (F := F)) 𝒱₀ (thr d i) none) Set.univ
          (k1_t11_body (F := F) i cV (Memref.isWhole_whole _) oV (Memref.isWhole_whole _) bA (Memref.isWhole_whole _) bB (Memref.isWhole_whole _) g0 (Memref.isWhole_whole _)
            g1 (Memref.isWhole_whole _) g2 (Memref.isWhole_whole _) g3 (Memref.isWhole_whole _) oS (Memref.isWhole_whole _)
            cc1_scratch7 cc1_scratch8 cc1_scoped0 lane k acc)
          (foldInv d i C (k.val + 1)) := by
  unfold foldInv k1_t11_body
  rw [k1_part9_eq_skeleton]
  unfold k1_part9_skel
  iintro ⟨H0, %f, %hf, Ho⟩
  have c0 : k1_chk33 (k1_pay33 lane 0#32 1#32 k) := place_inb k (j := 0) (by decide)
  have c1 : k1_chk34 (k1_pay34 lane 0#32 1#32 k) := place_inb k (j := 1) (by decide)
  have c2 : k1_chk35 (k1_pay35 lane 0#32 1#32 k) := place_inb k (j := 2) (by decide)
  have c3 : k1_chk36 (k1_pay36 lane 0#32 1#32 k) := place_inb k (j := 3) (by decide)
  have c4 : k1_chk37 (k1_pay37 lane 0#32 1#32 k) := place_inb k (j := 4) (by decide)
  have c5 : k1_chk38 (k1_pay38 lane 0#32 1#32 k) := place_inb k (j := 5) (by decide)
  have c6 : k1_chk39 (k1_pay39 lane 0#32 1#32 k) := place_inb k (j := 6) (by decide)
  have c7 : k1_chk40 (k1_pay40 lane 0#32 1#32 k) := place_inb k (j := 7) (by decide)
  have c8 : k1_chk41 (addi (k1_pay32 lane 0#32 1#32 k) k1_pay42) := place_inb k (j := 8) (by decide)
  have c9 : k1_chk42 (k1_pay8 (k1_pay32 lane 0#32 1#32 k)) := place_inb k (j := 9) (by decide)
  have c10 : k1_chk43 (k1_pay9 (k1_pay32 lane 0#32 1#32 k)) := place_inb k (j := 10) (by decide)
  have c11 : k1_chk44 (k1_pay10 (k1_pay32 lane 0#32 1#32 k)) := place_inb k (j := 11) (by decide)
  have c12 : k1_chk45 (k1_pay11 (k1_pay32 lane 0#32 1#32 k)) := place_inb k (j := 12) (by decide)
  have c13 : k1_chk46 (k1_pay12 (k1_pay32 lane 0#32 1#32 k)) := place_inb k (j := 13) (by decide)
  have c14 : k1_chk47 (k1_pay13 (k1_pay32 lane 0#32 1#32 k)) := place_inb k (j := 14) (by decide)
  have c15 : k1_chk48 (k1_pay14 (k1_pay32 lane 0#32 1#32 k)) := place_inb k (j := 15) (by decide)
  sl_exec
  simp (proj := false) only [Prog.bind_assoc]
  iapply (wp_gather d i _ k (j := 0) (by decide) rfl) $$ H0
  iintro H0
  sl_exec
  iapply (wp_gather d i _ k (j := 1) (by decide) rfl) $$ H0
  iintro H0
  sl_exec
  iapply (wp_gather d i _ k (j := 2) (by decide) rfl) $$ H0
  iintro H0
  sl_exec
  iapply (wp_gather d i _ k (j := 3) (by decide) rfl) $$ H0
  iintro H0
  sl_exec
  iapply (wp_gather d i _ k (j := 4) (by decide) rfl) $$ H0
  iintro H0
  sl_exec
  iapply (wp_gather d i _ k (j := 5) (by decide) rfl) $$ H0
  iintro H0
  sl_exec
  iapply (wp_gather d i _ k (j := 6) (by decide) rfl) $$ H0
  iintro H0
  sl_exec
  iapply (wp_gather d i _ k (j := 7) (by decide) rfl) $$ H0
  iintro H0
  sl_exec
  iapply (wp_gather d i _ k (j := 8) (by decide) rfl) $$ H0
  iintro H0
  sl_exec
  iapply (wp_gather d i _ k (j := 9) (by decide) rfl) $$ H0
  iintro H0
  sl_exec
  iapply (wp_gather d i _ k (j := 10) (by decide) rfl) $$ H0
  iintro H0
  sl_exec
  iapply (wp_gather d i _ k (j := 11) (by decide) rfl) $$ H0
  iintro H0
  sl_exec
  iapply (wp_gather d i _ k (j := 12) (by decide) rfl) $$ H0
  iintro H0
  sl_exec
  iapply (wp_gather d i _ k (j := 13) (by decide) rfl) $$ H0
  iintro H0
  sl_exec
  iapply (wp_gather d i _ k (j := 14) (by decide) rfl) $$ H0
  iintro H0
  sl_exec
  iapply (wp_gather d i _ k (j := 15) (by decide) rfl) $$ H0
  iintro H0
  sl_exec
  sl_step
  isplitl [H0]; · iexact H0
  iexists _; isplitr
  swap
  · iexact Ho
  ipureintro
  refine row_hit oS.view f (off12_eq k) (k1_off12_inb k) _ (fun e => outRow C (img i) (ix1 e)) (fun x h => ?_) hf
  have hx : x.val < 16 := x.isLt
  have h1 : (16 * k.val + x.val) / 16 = k.val := by omega
  have h2 : (⟨(16 * k.val + x.val) % 16, Nat.mod_lt _ (by decide)⟩ : Fin 16) = x := Fin.ext (by show (16 * k.val + x.val) % 16 = x.val; omega)
  show fold (merged C (img i)) k.val (ix1 x) = fold (merged C (img i)) ((16 * k.val + x.val) / 16) (ix1 ⟨(16 * k.val + x.val) % 16, _⟩)
  rw [h1, h2]

/-- After the last trip the output scratch holds the image's histogram. -/
theorem foldInv_last (C : S32x128x512.Idx → BitVec 32) (acc : BitVec 32) :
    foldInv (F := F) d i C k1_t11_loop.trips acc
      ⊢ iprop((g0.view.loc (thr d i) ↦{fullShare} merged C (img i)) ∗ (oS.view.loc (thr d i) ↦{fullShare} outRow C (img i))) := by
  unfold foldInv
  iintro ⟨H0, %f, %hf, Ho⟩
  isplitl [H0]; · iexact H0
  have e : f = outRow C (img i) := by
    funext x
    rw [← ix1_eta x]
    have ht : k1_t11_loop.trips = 16 := by decide
    exact hf _ (by have := (x 0).isLt; rw [ht]; exact this)
  rw [← e]
  iexact Ho

/-- Before the first trip of the adding loop the histograms are those of every word. -/
theorem mergeInv_first (C : S32x128x512.Idx → BitVec 32) (acc : BitVec 32) : histPts d i C 4096 ⊢ mergeInv (F := F) d i C 0 acc := by
  unfold histPts mergeInv
  iintro ⟨H0, H1, H2, H3⟩
  isplitl [H0]
  · iexists _; isplitr
    swap
    · iexact H0
    · ipureintro; exact ⟨fun e h => absurd h (by omega), fun _ _ => rfl⟩
  isplitl [H1]; · iexact H1
  isplitl [H2]; · iexact H2
  iexact H3

/-- After its last trip the first histogram is the sum. -/
theorem mergeInv_last (C : S32x128x512.Idx → BitVec 32) (acc : BitVec 32) :
    mergeInv (F := F) d i C k1_t10_loop.trips acc
      ⊢ iprop((g0.view.loc (thr d i) ↦{fullShare} merged C (img i)) ∗ (g1.view.loc (thr d i) ↦{fullShare} hist C (img i) 8#32 4096)
        ∗ (g2.view.loc (thr d i) ↦{fullShare} hist C (img i) 16#32 4096) ∗ (g3.view.loc (thr d i) ↦{fullShare} hist C (img i) 24#32 4096)) := by
  unfold mergeInv
  iintro ⟨⟨%f, %hf, H0⟩, H1, H2, H3⟩
  have e : f = merged C (img i) := by
    funext x
    rw [← ix1_eta x]
    have ht : k1_t10_loop.trips = 256 := by decide
    exact hf.1 _ (by have := (x 0).isLt; rw [ht]; exact this)
  rw [← e]
  isplitl [H0]; · iexact H0
  isplitl [H1]; · iexact H1
  isplitl [H2]; · iexact H2
  iexact H3

end Cert.Proof.Lbp

end
-- ==== Proof.Tile.lean ====
/-
  A tile's task: its image's codes in, its histogram out.
-/
module

public import proofs.«01_k».proof.Proof.Fold

@[expose] public section

set_option maxRecDepth 16384

noncomputable section

namespace Cert.Proof.Lbp

open Cert.KernelIdeal Cert.KernelIdeal.Gen

open Idealize.ShloMosaic Idealize.ShloMosaic.Pointwise
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [∀ e, Nonempty (Elt F e)]

local notation "𝕄" => MT nD τ sig (HIx 1) (Elt F) ℕ UU ℕ

variable (d : Dev nD) (i : grid1.Coords)

/-! ## The slices a task copies -/

/-- Chunk `c` of the image's codes. -/
abbrev srcK (c : Fin 8) : Memref sig .scVector .hbm S16x512 .i32 :=
  (cV.slice (Rect.unit (s := S32x128x512) (k1_off2 i (BitVec.ofNat 32 c.val)) S1x16x512.size (k1_off2_inb i c)) (fun _ => rfl)).squeeze
    S16x512 squeezes_S1x16x512_S16x512

/-- The image's row of the output. -/
abbrev oRowK : Memref sig .scVector .hbm S256 .f32 :=
  (oV.slice (Rect.unit (s := S32x1x256) (k1_off13 i) S1x1x256.size (k1_off13_inb i)) (fun _ => rfl)).squeeze S256 squeezes_S1x1x256_S256

/-- The histograms of all images, as the output array holds them. -/
def hOut (C : S32x128x512.Idx → BitVec 32) : Vec F S32x1x256 .f32 := fun x => outRow C (x 0) (ix1 (x 2))

omit [FloatOps F] [∀ e, Nonempty (Elt F e)] in
theorem read_srcK (C : S32x128x512.Idx → BitVec 32) (c : Fin 8) :
    (srcK i c).view.read (Elt F) C = chunk C (img i) c.val := by
  funext j
  refine ((View.read_apply _ _).trans (cast_eq _ _)).trans ?_
  show shapeCast S16x512 (fun z : S1x16x512.Idx => C ((Rect.unit (s := S32x128x512) (k1_off2 i (BitVec.ofNat 32 c.val)) S1x16x512.size (k1_off2_inb i c)).emb z))
    squeezes_S1x16x512_S16x512.numel_eq j = _
  simp only [pointwise]
  unfold chunk
  refine congrArg C (funext fun a => Fin.ext ?_)
  have ho := off2_eq i c
  have h0 := (j 0).isLt
  have hc := c.isLt
  show k1_off2 i (BitVec.ofNat 32 c.val) a + 1 * (ix3 (0 : Fin 1) (j 0) (j 1) a).val = _
  rw [ho]
  match a with
  | 0 => show (img i).val + 1 * 0 = (img i).val; omega
  | 1 =>
    show 16 * c.val + 1 * (j 0).val = (16 * c.val + (j 0).val) % 128
    have h0' : (j 0).val < 16 := h0
    omega
  | 2 => show 0 + 1 * (j 1).val = (j 1).val; omega

theorem oRow_written (C : S32x128x512.Idx → BitVec 32) (f : Vec F S32x1x256 .f32) (w : S256.Idx → Elt F .f32) (hw : w = outRow C (img i))
    (x : S32x1x256.Idx) (hx : x ∈ (oRowK i).view.set) :
    (oRowK i).view.writes (Elt F) f [⟨Rect.whole S256, w⟩] x = hOut C x := by
  subst hw
  obtain ⟨y, -, rfl⟩ := Finset.mem_map.mp hx
  rw [View.writes_singleton]
  refine (congrArg _ (show (oRowK i).view.emb y = ((oRowK i).view.slice (Rect.whole S256)).emb y from congrArg (oRowK i).view.emb (Rect.emb_whole_apply S256 y).symm)).trans ?_
  refine (View.write_emb_of_mem (v := (oRowK i).view.slice (Rect.whole S256)) f (outRow C (img i)) (M := Finset.univ) (Finset.mem_univ y)).trans ((cast_eq _ _).trans ?_)
  have h0 : (oRowK i).view.emb y 0 = img i := Fin.ext (by
    refine Eq.trans (congrArg (· + _) (congrFun (off13_eq i) 0)) ?_
    have := (Shape.reshapeEquiv (squeezes_S1x1x256_S256).numel_eq y 0).isLt
    show (img i).val + 1 * (Shape.reshapeEquiv (squeezes_S1x1x256_S256).numel_eq y 0).val = _
    have h1 : (Shape.reshapeEquiv (squeezes_S1x1x256_S256).numel_eq y 0).val < 1 := this
    omega)
  have h2 : (oRowK i).view.emb y 2 = y 0 := Fin.ext (by
    show k1_off13 i 2 + 1 * (Shape.reshapeEquiv (squeezes_S1x1x256_S256).numel_eq y 2).val = _
    rw [off13_eq]
    show 0 + 1 * (shapeCast S256 (fun z : S1x1x256.Idx => z 2) (squeezes_S1x1x256_S256).numel_eq y).val = _
    simp only [pointwise]
    exact (Nat.zero_add _).trans (Nat.one_mul _))
  show outRow C (img i) y = outRow C ((oRowK i).view.emb y 0) (ix1 ((oRowK i).view.emb y 2))
  rw [h0, h2]
  exact congrArg _ (ix1_eta y).symm

/-! ## A tile's semaphores and buffers -/

omit [FloatOps F] [∀ e, Nonempty (Elt F e)] in
theorem ownSems0_V :
    (ownSems0 (thr d i) : sProp 𝕄)
      = iprop(semVal ((thr d i, SemLoc.dma cc1_scratch7.sem) : GSem nD τ sig) 0 ∗ semVal ((thr d i, SemLoc.dma cc1_scratch8.sem) : GSem nD τ sig) 0
          ∗ semVal ((thr d i, SemLoc.dma cc1_scoped0.sem) : GSem nD τ sig) 0
          ∗ bigSep ((((ownCells (thr d i)).erase (thr d i, SemLoc.dma cc1_scratch7.sem)).erase (thr d i, SemLoc.dma cc1_scratch8.sem)).erase
              (thr d i, SemLoc.dma cc1_scoped0.sem)) fun g => semVal g 0) := by
  have hm : ∀ s : SemLoc sig, s.isScoped .scVector = true → ((thr d i, s) : GSem nD τ sig) ∈ ownCells (thr d i) :=
    fun s hs => mem_ownCells.mpr ⟨rfl, hs⟩
  have hn : ∀ s t : SemLoc sig, s ≠ t → ((thr d i, s) : GSem nD τ sig) ≠ (thr d i, t) := fun s t h e => h (congrArg Prod.snd e)
  unfold SparseCore.Cfg.ownSems0
  rw [SparseCore.bigSep_erase' (hm (SemLoc.dma cc1_scratch7.sem) (by decide)),
    SparseCore.bigSep_erase' (Finset.mem_erase.mpr ⟨hn _ _ (by decide), hm (SemLoc.dma cc1_scratch8.sem) (by decide)⟩),
    SparseCore.bigSep_erase' (Finset.mem_erase.mpr ⟨hn _ _ (by decide), Finset.mem_erase.mpr ⟨hn _ _ (by decide),
      hm (SemLoc.dma cc1_scoped0.sem) (by decide)⟩⟩)]

/-- A buffer of the tile at some contents. -/
abbrev anyPts {s : Shape} {e : EltTy} (m : Memref sig .scVector .vmem s e) : sProp 𝕄 := iprop(∃ f, m.view.loc (thr d i) ↦{fullShare} f)

/-- The tile's buffers other than the seven scratches. -/
def restRefs : Finset (DevRef τ sig) :=
  ((((((((ownRefs (τ := τ) (thr d i).2).erase ((thr d i).2.devRef cc1_scratch0)).erase ((thr d i).2.devRef cc1_scratch1)).erase
    ((thr d i).2.devRef cc1_scratch2)).erase ((thr d i).2.devRef cc1_scratch3)).erase ((thr d i).2.devRef cc1_scratch4)).erase
    ((thr d i).2.devRef cc1_scratch5)).erase ((thr d i).2.devRef cc1_scratch6))

omit [FloatOps F] [∀ e, Nonempty (Elt F e)] in
theorem ownBufs_V :
    (ownBufs (thr d i) : sProp 𝕄)
      = iprop(anyPts d i bA ∗ anyPts d i bB ∗ anyPts d i g0 ∗ anyPts d i g1 ∗ anyPts d i g2 ∗ anyPts d i g3 ∗ anyPts d i oS
          ∗ bigSep (restRefs d i) fun b => iprop(∃ f, ((d, b) : Loc nD τ sig) ↦{fullShare} f)) := by
  have hm : ∀ b : Ref sig .scVector, ((thr d i).2.devRef b).owner = .proc (thr d i).2 → (thr d i).2.devRef b ∈ ownRefs (τ := τ) (thr d i).2 :=
    fun b hb => SparseCore.Cfg.mem_ownRefs_of_owner (p := (thr d i).2) (b := (thr d i).2.devRef b) hb
  have hn : ∀ a b : Ref sig .scVector, a ≠ b → (thr d i).2.devRef a ≠ (thr d i).2.devRef b := fun a b h e => h (Proc.devRef_injective _ e)
  have hs : ∀ {t : Finset (DevRef τ sig)} (a b : Ref sig .scVector), a ≠ b → (thr d i).2.devRef a ∈ t → (thr d i).2.devRef a ∈ t.erase ((thr d i).2.devRef b) :=
    fun a b h ht => Finset.mem_erase.mpr ⟨hn a b h, ht⟩
  unfold SparseCore.Cfg.ownBufs restRefs
  rw [SparseCore.bigSep_erase' (hm cc1_scratch0 rfl),
    SparseCore.bigSep_erase' (hs cc1_scratch1 _ (by decide) (hm cc1_scratch1 rfl)),
    SparseCore.bigSep_erase' (hs cc1_scratch2 _ (by decide) (hs _ _ (by decide) (hm cc1_scratch2 rfl))),
    SparseCore.bigSep_erase' (hs cc1_scratch3 _ (by decide) (hs _ _ (by decide) (hs _ _ (by decide) (hm cc1_scratch3 rfl)))),
    SparseCore.bigSep_erase' (hs cc1_scratch4 _ (by decide) (hs _ _ (by decide) (hs _ _ (by decide) (hs _ _ (by decide) (hm cc1_scratch4 rfl))))),
    SparseCore.bigSep_erase' (hs cc1_scratch5 _ (by decide) (hs _ _ (by decide) (hs _ _ (by decide) (hs _ _ (by decide) (hs _ _ (by decide)
      (hm cc1_scratch5 rfl)))))),
    SparseCore.bigSep_erase' (hs cc1_scratch6 _ (by decide) (hs _ _ (by decide) (hs _ _ (by decide) (hs _ _ (by decide) (hs _ _ (by decide)
      (hs _ _ (by decide) (hm cc1_scratch6 rfl)))))))]

/-! ## The task -/

/-- The invariant of the loop over a chunk: the buffer reads the chunk, the histograms are those of the words counted. -/
def chunkInv (C : S32x128x512.Idx → BitVec 32) (c : ℕ) (a : Memref sig .scVector .vmem S16x512 .i32) (n : ℕ) (acc : PUnit) : sProp 𝕄 :=
  iprop(∃ G : Buf (Elt F) (a.view.loc (thr d i)), ⌜a.view.read (Elt F) G = chunk C (img i) c⌝ ∗ countInv d i C c a G n acc)

/-- Before the first trip. -/
theorem chunkInv_first (C : S32x128x512.Idx → BitVec 32) (c : Fin 8) (a : Memref sig .scVector .vmem S16x512 .i32)
    (f : Buf (Elt F) (a.view.loc (thr d i))) (acc : PUnit) :
    iprop((a.view.loc (thr d i) ↦{fullShare} View.write (Elt F) a.view f ((srcK i c).view.read (Elt F) C) Finset.univ) ∗ histPts (F := F) d i C (512 * c.val))
      ⊢ chunkInv d i C c.val a 0 acc := by
  unfold chunkInv countInv
  iintro ⟨Ha, HI⟩
  iexists _; isplitr
  swap
  · isplitl [Ha]
    · iexact Ha
    · iexact HI
  ipureintro
  exact (View.read_write_univ _ _).trans (read_srcK i C c)

/-- After the last trip over a chunk the buffer is free again and the histograms are those the next chunk starts from. -/
theorem chunkInv_last (C : S32x128x512.Idx → BitVec 32) (c : ℕ) (a : Memref sig .scVector .vmem S16x512 .i32) {n : ℕ} (hn : n = 512) (acc : PUnit) :
    chunkInv (F := F) d i C c a n acc ⊢ iprop(∃ G, (a.view.loc (thr d i) ↦{fullShare} G) ∗ histPts d i C (512 * (c + 1))) := by
  subst hn
  unfold chunkInv countInv
  iintro ⟨%G, -, Ha, HI⟩
  iexists G
  isplitl [Ha]
  · iexact Ha
  · iexact HI

/-- One trip. -/
theorem chunkTrip (C : S32x128x512.Idx → BitVec 32) {c : ℕ} (hc : c < 8) (a4 : Memref sig .scVector .vmem S16x512 .i32) (h4 : a4.IsWhole)
    (a5 : Memref sig .scVector .vmem S16x512 .i32) (h5 : a5.IsWhole) (k : Fin k1_t8_loop.trips) (acc : PUnit) :
    chunkInv (F := F) d i C c a4 k.val acc ⊢ wp frame (wpE (defs₀ (F := F)) 𝒱₀ (thr d i) none) Set.univ
        (k1_t8_body (F := F) i cV (Memref.isWhole_whole _) oV (Memref.isWhole_whole _) a4 h4 a5 h5 g0 (Memref.isWhole_whole _)
          g1 (Memref.isWhole_whole _) g2 (Memref.isWhole_whole _) g3 (Memref.isWhole_whole _) oS (Memref.isWhole_whole _)
          cc1_scratch7 cc1_scratch8 cc1_scoped0 lane ones k acc)
        (chunkInv d i C c a4 (k.val + 1)) := by
  unfold chunkInv
  iintro ⟨%G, %hG, H⟩
  iapply (wp_mono frame _ _ fun r => (show countInv d i C c a4 G (k.val + 1) r ⊢ iprop(∃ G : Buf (Elt F) (a4.view.loc (thr d i)),
    ⌜a4.view.read (Elt F) G = chunk C (img i) c⌝ ∗ countInv d i C c a4 G (k.val + 1) r) from by
      iintro H; iexists G; isplitr
      · ipureintro; exact hG
      · iexact H))
  iapply (trip d i hc a4 h4 a5 h5 G hG k acc) $$ H

/-- What a tile is given: its share of the codes and its row of the output. -/
def tileIn (q : PosShare TreeShare) (C : S32x128x512.Idx → BitVec 32) : sProp 𝕄 :=
  iprop((cV.view.loc (thr d i) ↦{q} C) ∗ ∃ f, (oRowK i).view.loc (thr d i) ↦[(oRowK i).view.set]{fullShare} f)

/-- What a tile hands back: the share, and its row at the histogram. -/
def tileOut (q : PosShare TreeShare) (C : S32x128x512.Idx → BitVec 32) : sProp 𝕄 :=
  iprop((cV.view.loc (thr d i) ↦{q} C) ∗ (oRowK i).view.loc (thr d i) ↦[(oRowK i).view.set]{fullShare} hOut C)

set_option maxHeartbeats 8000000 in
theorem tile_body (hF : (K (F := F)).Facts) (q : PosShare TreeShare) (C : S32x128x512.Idx → BitVec 32) (O : CellTallies nD τ sig (HIx 1))
    (W : Waits sig (HIx 1)) (hO : ∀ g, O g none = 0) :
    iprop(levAts (K (F := F)).L (K (F := F)).lev ∗ emp ∗ tileIn d i q C
        ∗ scopedBufs (thr d i) ∗ scopedSems0 (thr d i) ∗ owes (thr d i) O W)
      ⊢ wp frame (wpE (defs₀ (F := F)) 𝒱₀ (thr d i) none) Set.univ
          (cc1_sc_hist i cV (Memref.isWhole_whole _) oV (Memref.isWhole_whole _) bA (Memref.isWhole_whole _) bB (Memref.isWhole_whole _)
            g0 (Memref.isWhole_whole _) g1 (Memref.isWhole_whole _) g2 (Memref.isWhole_whole _) g3 (Memref.isWhole_whole _)
            oS (Memref.isWhole_whole _) cc1_scratch7 cc1_scratch8 cc1_scoped0)
          fun _ => iprop(tileOut d i q C
            ∗ scopedBufs (thr d i) ∗ scopedSems0 (thr d i)
            ∗ ∃ W', ⌜∀ p ∈ W', p ∈ W ∨ p.2 = none⌝ ∗ owes (thr d i) O W') := by
  simp only [cc1_sc_hist_eq_skeleton]; unfold cc1_sc_hist_skel
  simp only [k1_part10_eq_skeleton, k1_part11_eq_skeleton, k1_part12_eq_skeleton, k1_part13_eq_skeleton]
  unfold k1_part10_skel k1_part11_skel k1_part12_skel k1_part13_skel
  simp (proj := false) only [Prog.bind_assoc]
  rw [(K (F := F)).scopedBufs_V hF d ((i 0).castLE hcore1) ((i 1).castLE hsub1),
    SparseCore.Cfg.scopedSems0_V (Val := Elt F) d ((i 0).castLE hcore1) ((i 1).castLE hsub1), ownSems0_V, ownBufs_V]
  unfold tileIn tileOut
  iintro ⟨#Hlv, -, ⟨Hc, %fo, Ho⟩, ⟨⟨%fa, Ha⟩, ⟨%fb, Hb⟩, ⟨%f0, H0⟩, ⟨%f1, H1⟩, ⟨%f2, H2⟩, ⟨%f3, H3⟩, ⟨%fs, Hs⟩, Hbufs⟩, ⟨HsemA, HsemB, HsemC, Hsems⟩, HO⟩
  ihave Hmw := (show levAts (K (F := F)).L (K (F := F)).lev ⊢ Transfers.MayWaits (thr d i) (default : HIx 1) O from
    (K (F := F)).mayWaits_none (thr := thr d i) hO) $$ Hlv
  sl_for (zeroInv d i) $$ [H0 H1 H2 H3]
  case region => intro k acc; exact zeroTrip d i k acc
  · unfold zeroInv
    isplitl [H0]
    · iexists _; isplitr
      swap
      · iexact H0
      · ipureintro; intro e h; exact absurd h (by omega)
    isplitl [H1]
    · iexists _; isplitr
      swap
      · iexact H1
      · ipureintro; intro e h; exact absurd h (by omega)
    isplitl [H2]
    · iexists _; isplitr
      swap
      · iexact H2
      · ipureintro; intro e h; exact absurd h (by omega)
    · iexists _; isplitr
      swap
      · iexact H3
      · ipureintro; intro e h; exact absurd h (by omega)
  iintro %a0 HI
  ihave HI := (zeroInv_last d i C a0) $$ HI
  sl_exec
  -- chunk 0
  sl_for (chunkInv d i C 0 bA) $$ [HI Ha]
  case region => intro k acc; unfold tile_body.sl.prog.body_2; rw [t2_eq]; exact chunkTrip d i C (by decide) bA _ bB _ k acc
  · iapply (chunkInv_first d i C 0 bA _ _); isplitl [Ha]
    · iexact Ha
    · iexact HI
  iintro %_ HI
  icases (chunkInv_last d i C 0 bA (by decide) _) $$ HI with ⟨%_, Ha, HI⟩
  sl_exec
  -- chunk 1
  sl_for (chunkInv d i C 1 bB) $$ [HI Hb]
  case region => intro k acc; unfold tile_body.sl.prog.body_3; rw [t3_eq]; exact chunkTrip d i C (by decide) bB _ bA _ k acc
  · iapply (chunkInv_first d i C 1 bB _ _); isplitl [Hb]
    · iexact Hb
    · iexact HI
  iintro %_ HI
  icases (chunkInv_last d i C 1 bB (by decide) _) $$ HI with ⟨%_, Hb, HI⟩
  sl_exec
  -- chunk 2
  sl_for (chunkInv d i C 2 bA) $$ [HI Ha]
  case region => intro k acc; unfold tile_body.sl.prog.body_4; rw [t4_eq]; exact chunkTrip d i C (by decide) bA _ bB _ k acc
  · iapply (chunkInv_first d i C 2 bA _ _); isplitl [Ha]
    · iexact Ha
    · iexact HI
  iintro %_ HI
  icases (chunkInv_last d i C 2 bA (by decide) _) $$ HI with ⟨%_, Ha, HI⟩
  sl_exec
  -- chunk 3
  sl_for (chunkInv d i C 3 bB) $$ [HI Hb]
  case region => intro k acc; unfold tile_body.sl.prog.body_5; rw [t5_eq]; exact chunkTrip d i C (by decide) bB _ bA _ k acc
  · iapply (chunkInv_first d i C 3 bB _ _); isplitl [Hb]
    · iexact Hb
    · iexact HI
  iintro %_ HI
  icases (chunkInv_last d i C 3 bB (by decide) _) $$ HI with ⟨%_, Hb, HI⟩
  sl_exec
  -- chunk 4
  sl_for (chunkInv d i C 4 bA) $$ [HI Ha]
  case region => intro k acc; unfold tile_body.sl.prog.body_6; rw [t6_eq]; exact chunkTrip d i C (by decide) bA _ bB _ k acc
  · iapply (chunkInv_first d i C 4 bA _ _); isplitl [Ha]
    · iexact Ha
    · iexact HI
  iintro %_ HI
  icases (chunkInv_last d i C 4 bA (by decide) _) $$ HI with ⟨%_, Ha, HI⟩
  sl_exec
  -- chunk 5
  sl_for (chunkInv d i C 5 bB) $$ [HI Hb]
  case region => intro k acc; unfold tile_body.sl.prog.body_7; rw [t7_eq]; exact chunkTrip d i C (by decide) bB _ bA _ k acc
  · iapply (chunkInv_first d i C 5 bB _ _); isplitl [Hb]
    · iexact Hb
    · iexact HI
  iintro %_ HI
  icases (chunkInv_last d i C 5 bB (by decide) _) $$ HI with ⟨%_, Hb, HI⟩
  sl_exec
  -- chunk 6
  sl_for (chunkInv d i C 6 bA) $$ [HI Ha]
  case region => intro k acc; unfold tile_body.sl.prog.body_8; exact chunkTrip d i C (by decide) bA _ bB _ k acc
  · iapply (chunkInv_first d i C 6 bA _ _); isplitl [Ha]
    · iexact Ha
    · iexact HI
  iintro %_ HI
  icases (chunkInv_last d i C 6 bA (by decide) _) $$ HI with ⟨%_, Ha, HI⟩
  sl_exec
  -- chunk 7
  sl_for (chunkInv d i C 7 bB) $$ [HI Hb]
  case region => intro k acc; unfold tile_body.sl.prog.body_9; rw [t9_eq]; exact chunkTrip d i C (by decide) bB _ bA _ k acc
  · iapply (chunkInv_first d i C 7 bB _ _); isplitl [Hb]
    · iexact Hb
    · iexact HI
  iintro %_ HI
  icases (chunkInv_last d i C 7 bB (by decide) _) $$ HI with ⟨%_, Hb, HI⟩
  sl_exec
  sl_for (mergeInv d i C) $$ [HI]
  case region => intro k acc; exact mergeTrip d i C k acc
  · iapply (mergeInv_first d i C _); iexact HI
  iintro %a1 HI
  icases (mergeInv_last d i C a1) $$ HI with ⟨H0, H1, H2, H3⟩
  sl_exec
  sl_for (foldInv d i C) $$ [H0 Hs]
  case region => intro k acc; exact foldTrip d i C k acc
  · unfold foldInv
    isplitl [H0]; · iexact H0
    iexists fs; isplitr
    swap
    · iexact Hs
    ipureintro; intro e h; exact absurd h (by omega)
  iintro %a2 HI
  icases (foldInv_last d i C a2) $$ HI with ⟨H0, Hs⟩
  sl_exec
  sl_step
  isplitl [Hc Ho]
  · isplitl [Hc]; · iexact Hc
    iapply (Entails.of_eq (pointsTo_congr (q := fullShare) fun x hx => oRow_written i C fo (tile_body.sl.dma0_8 i C) (by unfold tile_body.sl.dma0_8; exact View.read_whole (Val := Elt F) cc1_scratch6 (outRow C (img i))) x hx))
    iexact Ho
  isplitl [Ha Hb H0 H1 H2 H3 Hs Hbufs]
  · isplitl [Ha]; · iexists _; iexact Ha
    isplitl [Hb]; · iexists _; iexact Hb
    isplitl [H0]; · iexists _; iexact H0
    isplitl [H1]; · iexists _; iexact H1
    isplitl [H2]; · iexists _; iexact H2
    isplitl [H3]; · iexists _; iexact H3
    isplitl [Hs]; · iexists _; iexact Hs
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro
  intro p hp
  simp only [Finset.mem_insert] at hp
  rcases hp with rfl | rfl | rfl | rfl | rfl | rfl | rfl | rfl | rfl | hp
  all_goals first | exact Or.inr rfl | exact Or.inl hp

end Cert.Proof.Lbp

end
-- ==== Proof.Deal.lean ====
/-
  The SparseCore call's dealing: every tile task gets a share of the codes' array and its own row of the histograms'
  array, and hands them back with its row at its image's histogram.
-/
module

public import proofs.«01_k».proof.Proof.Tile
public import Idealize.ShloMosaic.Lib.ShareLeaves

@[expose] public section

set_option maxRecDepth 16384

noncomputable section

namespace Cert.Proof.Lbp

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F] [∀ e, Nonempty (Elt F e)]

local notation "𝕄" => MT nD τ sig (HIx 1) (Elt F) ℕ UU ℕ

/-! ## The tasks and their images -/

/-- The two SparseCores' sixteen tasks each are the thirty-two images. -/
def tasks : Fin 2 × Fin 16 ≃ Fin (2 ^ 5) where
  toFun p := img (mk p.1 p.2)
  invFun n := (⟨n.val % 2, Nat.mod_lt _ (by decide)⟩, ⟨n.val / 2, by have := n.isLt; omega⟩)
  left_inv p := by
    have h0 := p.1.isLt
    refine Prod.ext (Fin.ext ?_) (Fin.ext ?_)
    · show (2 * p.2.val + p.1.val) % 2 = p.1.val; omega
    · show (2 * p.2.val + p.1.val) / 2 = p.2.val; omega
  right_inv n := Fin.ext (by show 2 * (n.val / 2) + n.val % 2 = n.val; omega)

theorem bigSep_images (Φ : Fin (2 ^ 5) → sProp 𝕄) :
    bigSep Finset.univ Φ = bigSep Finset.univ fun c : Fin 2 => bigSep Finset.univ fun s : Fin 16 => Φ (img (mk c s)) := by
  rw [bigSep_univ_equiv tasks Φ, bigSep_univ_prod]; rfl

/-! ## The codes' shares and the histograms' rows -/

abbrev cLoc (d : Dev nD) : Loc nD τ sig := (T d : Thread nD τ).loc main_v1
abbrev hLoc (d : Dev nD) : Loc nD τ sig := (T d : Thread nD τ).loc main_v2

/-- The share of the codes that the task at coordinates `i` reads through. -/
abbrev share (i : grid1.Coords) : PosShare TreeShare := leaf 5 fullShare (img i)

theorem hdiv : 32 ∣ S32x1x256.size 0 := ⟨1, rfl⟩
abbrev hrow (j : Fin 32) : Rect S32x1x256 := Rect.part (s := S32x1x256) (a₀ := 0) hdiv j
abbrev hRowSet (j : Fin 32) : Finset S32x1x256.Idx := (hrow j).set

theorem rowK_eq (i : grid1.Coords) : Rect.unit (s := S32x1x256) (k1_off13 i) S1x1x256.size (k1_off13_inb i) = hrow (img i) := by
  unfold hrow Rect.part Rect.block
  congr 1 <;> funext a
  · rw [off13_eq]
    match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem set_oRowK (i : grid1.Coords) : (oRowK i).view.set = hRowSet (img i) := by
  show ((oV.view.slice (Rect.unit (s := S32x1x256) (k1_off13 i) S1x1x256.size (k1_off13_inb i))).reshape S256 squeezes_S1x1x256_S256.numel_eq).set = _
  rw [View.set_reshape]
  have h : (oV.view.slice (hrow (img i))).set = hRowSet (img i) := by
    show ((View.whole (main_v2_scv : Ref sig .scVector)).slice (hrow (img i))).set = _
    rw [View.set_slice]; exact Finset.map_refl
  exact (rowK_eq i ▸ rfl : (oV.view.slice (Rect.unit (s := S32x1x256) (k1_off13 i) S1x1x256.size (k1_off13_inb i))).set = (oV.view.slice (hrow (img i))).set).trans h

theorem codes_shares (d : Dev nD) (C : S32x128x512.Idx → BitVec 32) :
    (cLoc d ↦{fullShare} C : sProp 𝕄)
      = bigSep Finset.univ fun c : Fin 2 => bigSep Finset.univ fun s : Fin 16 => cLoc d ↦{share (mk c s)} C := by
  have h := pointsTo_leaves (nD := nD) (τ := τ) (sig := sig) (Ix := HIx 1) (Val := Elt F) (Name := ℕ) (U := UU) (Lvl := ℕ)
    (ℓ := cLoc d) Finset.univ C 5 fullShare
  rw [bigSep_images (F := F)] at h
  exact h

theorem hist_rows (d : Dev nD) (f : Buf (Elt F) (hLoc d)) :
    (hLoc d ↦{fullShare} f : sProp 𝕄)
      = bigSep Finset.univ fun c : Fin 2 => bigSep Finset.univ fun s : Fin 16 => hLoc d ↦[hRowSet (img (mk c s))]{fullShare} f := by
  have h : (hLoc d ↦{fullShare} f : sProp 𝕄) = bigSep Finset.univ fun j : Fin 32 => hLoc d ↦[hRowSet j]{fullShare} f := by
    rw [← pointsTo_biUnion Finset.univ (ℓ := hLoc d) hRowSet fun i _ j _ h => Rect.part_disjoint hdiv h, Rect.biUnion_part hdiv]
    try rfl
  exact h.trans (bigSep_images (F := F) fun j => hLoc d ↦[hRowSet j]{fullShare} f)

/-! ## What the call's threads hand each other -/

theorem nCore_zero : (K (F := F)).nCore 0 = 2 := rfl
theorem nSub_zero : (K (F := F)).nSub 0 = 16 := rfl

variable (C : Dev nD → S32x128x512.Idx → BitVec 32)

/-- What the task of core `c`, subcore `s` is handed, and what it hands back. -/
abbrev inAt (d : Dev nD) (c : Fin 2) (s : Fin 16) : sProp 𝕄 := tileIn d (mk c s) (share (mk c s)) (C d)
abbrev outAt (d : Dev nD) (c : Fin 2) (s : Fin 16) : sProp 𝕄 := tileOut d (mk c s) (share (mk c s)) (C d)

def P : (K (F := F)).Pay (nD := nD) (Val := Elt F) (Name := ℕ) (U := UU) where
  st := fun q d c => match q with | 0 => bigSep Finset.univ fun s : Fin 16 => inAt C d (Fin.cast nCore_zero c) s
  dn := fun q d c => match q with | 0 => bigSep Finset.univ fun s : Fin 16 => outAt C d (Fin.cast nCore_zero c) s
  go := fun q d c i => match q with | 0 => inAt C d (Fin.cast nCore_zero c) (Fin.cast nSub_zero i)
  td := fun q d c i => match q with | 0 => outAt C d (Fin.cast nCore_zero c) (Fin.cast nSub_zero i)
  x := fun _ _ => iprop(emp)

instance in_storable (d : Dev nD) (c : Fin 2) (s : Fin 16) : BI.Storable (upEmb : UEmb _ 𝕄) (inAt C d c s) := by
  unfold inAt tileIn; infer_instance
instance out_storable (d : Dev nD) (c : Fin 2) (s : Fin 16) : BI.Storable (upEmb : UEmb _ 𝕄) (outAt C d c s) := by
  unfold outAt tileOut; infer_instance

instance P_storable : (P (F := F) C).IsStorable where
  st q d c := match q with
    | 0 => (inferInstance : BI.Storable (upEmb : UEmb _ 𝕄) (bigSep Finset.univ fun s : Fin 16 => inAt C d (Fin.cast nCore_zero c) s))
  dn q d c := match q with
    | 0 => (inferInstance : BI.Storable (upEmb : UEmb _ 𝕄) (bigSep Finset.univ fun s : Fin 16 => outAt C d (Fin.cast nCore_zero c) s))
  go q d c i := match q with | 0 => in_storable C d _ _
  td q d c i := match q with | 0 => out_storable C d _ _

theorem vecSplit : (K (F := F)).VecSplit' (P C) 0 := by
  intro d c
  show (bigSep Finset.univ fun s : Fin 16 => inAt C d (Fin.cast nCore_zero c) s) ⊢ |={Set.univ}=> iprop(
      (bigSep Finset.univ fun i : Fin 16 => inAt C d (Fin.cast nCore_zero c) i)
      ∗ ((bigSep Finset.univ fun i : Fin 16 => outAt C d (Fin.cast nCore_zero c) i)
          -∗ bigSep Finset.univ fun s : Fin 16 => outAt C d (Fin.cast nCore_zero c) s))
  iintro H; imodintro
  isplitl [H]; · iexact H
  iintro H; iexact H

theorem in_of (d : Dev nD) (c : Fin 2) (s : Fin 16) (f : Buf (Elt F) (hLoc d)) :
    iprop((cLoc d ↦{share (mk c s)} C d) ∗ hLoc d ↦[hRowSet (img (mk c s))]{fullShare} f) ⊢ inAt C d c s := by
  unfold inAt tileIn
  rw [set_oRowK]
  iintro ⟨Hc, Hh⟩
  isplitl [Hc]; · iexact Hc
  iexists f; iexact Hh

/-- The codes and the histograms' array, dealt to the tasks. -/
theorem deal (d : Dev nD) (f : Buf (Elt F) (hLoc d)) :
    iprop((cLoc d ↦{fullShare} C d) ∗ hLoc d ↦{fullShare} f)
      ⊢ bigSep Finset.univ fun c : Fin ((K (F := F)).nCore 0) => (P (F := F) C).st 0 d c := by
  show _ ⊢ bigSep Finset.univ fun c : Fin 2 => bigSep Finset.univ fun s : Fin 16 => inAt C d c s
  rw [codes_shares, hist_rows]
  refine (Entails.of_eq (bigSep_sep' _ _ _).symm).trans (bigSep_mono fun c _ => ?_)
  refine (Entails.of_eq (bigSep_sep' _ _ _).symm).trans (bigSep_mono fun s _ => in_of C d c s f)

/-- And gathered from them, the histograms' array at the histograms. -/
theorem gather (d : Dev nD) :
    (bigSep Finset.univ fun c : Fin ((K (F := F)).nCore 0) => (P (F := F) C).dn 0 d c)
      ⊢ iprop((cLoc d ↦{fullShare} C d) ∗ hLoc d ↦{fullShare} hOut (C d)) := by
  show (bigSep Finset.univ fun c : Fin 2 => bigSep Finset.univ fun s : Fin 16 => outAt C d c s) ⊢ _
  rw [codes_shares, hist_rows]
  refine (bigSep_mono fun c _ => ?_).trans (Entails.of_eq (bigSep_sep' _ _ _))
  refine (bigSep_mono fun s _ => ?_).trans (Entails.of_eq (bigSep_sep' _ _ _))
  unfold outAt tileOut
  rw [set_oRowK]
  exact BI.Entails.refl _

/-! ## The tasks' obligation -/

theorem defs₀_vector (c : Fin τ.nSC) (s : Fin τ.nSub) :
    defs₀ (F := F) (.scVector c s) 1 ()
      = SparseCore.onTile hcore1 hsub1 (fun c s => cc1_sc_hist (mk c s)
          cV (Memref.isWhole_whole _) oV (Memref.isWhole_whole _) bA (Memref.isWhole_whole _) bB (Memref.isWhole_whole _)
            g0 (Memref.isWhole_whole _) g1 (Memref.isWhole_whole _) g2 (Memref.isWhole_whole _) g3 (Memref.isWhole_whole _)
            oS (Memref.isWhole_whole _) cc1_scratch7 cc1_scratch8 cc1_scoped0) ⟨⟩ c s := rfl

theorem obl_post {t : Thread nD τ} {A B R : sProp 𝕄} {O : CellTallies nD τ sig (HIx 1)} {W : Waits sig (HIx 1)} {q : Fin 1} :
    iprop(A ∗ B ∗ R ∗ ∃ W', ⌜∀ p ∈ W', p ∈ W ∨ p.2 = none⌝ ∗ owes t O W')
      ⊢ iprop(A ∗ B ∗ R ∗ ∃ W', ⌜∀ p ∈ W', p ∈ W ∨ p.2 = none ∨ p.2 = some q⌝ ∗ owes t O W') := by
  iintro ⟨HA, HB, HR, %W', %hW', HO⟩
  isplitl [HA]; · iexact HA
  isplitl [HB]; · iexact HB
  isplitl [HR]; · iexact HR
  iexists W'; isplitr
  · ipureintro; exact fun p hp => (hW' p hp).imp_right Or.inl
  · iexact HO

theorem tileObl (hF : (K (F := F)).Facts) : (K (F := F)).TileObl (D (F := F)) 𝒱 (P C) v₀ 0 := by
  intro d c i O W hO _ _
  simp only [show (P (F := F) C).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (mk ⟨_, hci.1⟩ ⟨_, hci.2⟩) hF (share (mk ⟨_, hci.1⟩ ⟨_, hci.2⟩)) (C d) O W hO).trans (wp_mono frame _ _ fun _ => obl_post)

end Cert.Proof.Lbp

end
-- ==== Proof.Regions.lean ====
/-
  The TensorCore's two pipelined calls beside the SparseCore launch: a region entered from the unscoped buffers at any
  contents, with the launch's debts carried through.
-/
module

public import proofs.«01_k».proof.Proof.Setup
public import Idealize.ShloMosaic.Lib.Pipeline.RegionsLoop
public import proofs.«01_k».proof.Proof.Gen.KernelIdeal.Launch
public import proofs.«01_k».proof.Proof.Gen.KernelIdeal.Points
public import proofs.«01_k».proof.Proof.Gen.KernelIdeal.Skeleton

@[expose] public section

set_option maxRecDepth 16384

noncomputable section

namespace Cert.Proof.Lbp

open Cert.KernelIdeal Cert.KernelIdeal.Gen

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [∀ e, Nonempty (Elt F e)]

local notation "𝕄" => MT nD τ sig (HIx 1) (Elt F) ℕ UU ℕ

abbrev adm : (p : Fin 2) → (pcfgs (F := F) p).Adm := fun p => (cfgs p).toPCfg_adm

/-- The contents of a device's buffers. -/
abbrev Vals : Type := (c : Dev nD) → (b : Ref sig .tc) → Buf (Elt F) ((c : Thread nD τ).loc b)

/-- The waits recorded before call `n`. -/
abbrev waited (n : ℕ) (c : Dev nD) : Set (SemLoc sig × HIx 1) := {p | (K (F := F)).lev (((T c : Thread nD τ)), p.1) p.2 ≤ n}

/-- What the TensorCore owes before call `n`, with the waits recorded so far. -/
abbrev duesAt (n b : ℕ) (c : Dev nD) : sProp 𝕄 :=
  iprop(∃ W, ⌜(K (F := F)).WBelow (T c) W b⌝ ∗ owes (T c) ((K (F := F)).Otc c n) W)

omit [∀ e, Nonempty (Elt F e)] in
theorem otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    rw [tallyAt_apply, if_neg fun h => nomatch h.2]
  · rfl

set_option backward.isDefEq.respectTransparency.types false in
/-- A region over every unscoped buffer at `Va`, left at `Vb`, between SparseCore calls. -/
def seg (p : Fin 2) (n b : ℕ) (pd : (p : Fin 2) → (c : Dev nD) → Dat τ (Elt F) (HIx 1) ℕ UU ℕ (Pipeline.pin (pcfgs (F := F)) adm p) c)
    (hL : Pipeline.LaunchFacts (nD := nD) (τ := τ) cfgs p) (Va Vb : Vals (F := F))
    (hA : ∀ c w, (pd p c).A w = Va c (Pipeline.arrRef (cfgs p).spec w))
    (hq : ∀ c w, (pd p c).q w = fullShare)
    (hΦ : ∀ c t, (pd p c).Φ t = Pipeline.scopedRest (cfgs p).spec c)
    (ho : ∀ c t, (pd p c).owed t = (K (F := F)).Otc c n)
    (hr : ∀ c t, (pd p c).recorded t = waited (F := F) b c)
    (hb : ∀ c, BodyObligation (pd p c) (defs₀ (F := F)) 𝒱₀ none Set.univ)
    (hout : ∀ c w, (pd p c).arrAt w (cfgs p).N = Vb c (Pipeline.arrRef (cfgs p).spec w))
    (hrest : ∀ c (b : Ref sig .tc), b ∉ Finset.univ.image (Pipeline.arrRef (cfgs p).spec) → Vb c b = Va c b) :
    Pipeline.RegionSeg (pcfgs (F := F)) adm pd none defs₀ 𝒱₀ (K (F := F)).L (K (F := F)).lev p where
  win := hL.win.to₀
  block_pos := hL.block_pos
  stage_whole := hL.stage_whole
  K := PEmpty
  osem k := k.elim
  ho := Pipeline.OwnSemFacts.none _
  hbody c := (hb c).loose
  hwaits c := Pipeline.cellsWaits_intro _ _ _ p c fun w s t => by
    rw [ho c t]
    exact (K (F := F)).mayWait_none _ (otc_none (F := F) c n)
  pre c := iprop(unscopedBufs c (Va c) ∗ duesAt n b c)
  post c := iprop(unscopedBufs c (Vb c) ∗ duesAt n b c)
  X _ := BI.emp
  Y _ := BI.emp
  Z c := Pipeline.unscopedRest (cfgs p).spec c (Va c)
  hentry c := by
    rw [Pipeline.ownSems0_none]
    have hsplit := Pipeline.arrays_of_unscopedBufs (p := p) (pcfgs (F := F)) adm pd hL.win hL.arr_whole c
      ((pd p c).share_full (hq c)) (Va c) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [ho c]
      icases HO with ⟨%W, %hW, HO⟩; iexists W; isplitr
      · ipureintro; intro x hx; refine Or.inl ?_; rw [hr c]; exact hW x hx
      iexact HO
    isplitr; · iempintro
    iexact Hrest
  hin c := by
    rw [hΦ c]
    iintro ⟨-, -, Hr⟩; iexact Hr
  hout c := by
    rw [Pipeline.ownSems0_none, hΦ c]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) hL.win hL.arr_whole c
      pd ((pd p c).share_full (hq c)) (Va c) (Vb c) ((pd p c).arrAt · (cfgs p).N) (hout c) (hrest c)
    iintro ⟨Ha, HO, -, Hrest⟩
    imodintro
    isplitl [Ha Hrest]
    · iapply hjoin; isplitl [Ha] <;> iassumption
    unfold Pipeline.Dat.owesAt Pipeline.owesWithin
    rw [ho c]
    icases HO with ⟨%W, %hW, HO⟩; iexists W; isplitr
    · ipureintro; intro x hx
      rcases hW hx with h | ⟨w, s, h⟩
      · rw [hr c] at h; exact h
      · rw [h]; exact Nat.zero_le _
    iexact HO

end Cert.Proof.Lbp

end
-- ==== Proof.Blocks.lean ====
/-
  The two TensorCore bodies: the codes of an image's block, the normalised row of a histogram; and their regions.
-/
module

public import proofs.«01_k».proof.Proof.Regions
public import Idealize.ShloMosaic.Lib.Pipeline.ValueKit
public import Idealize.ShloMosaic.Lib.Pipeline.FrameBody
public import Idealize.ShloMosaic.Lib.Pointwise

@[expose] public section

set_option maxRecDepth 16384

noncomputable section

namespace Cert.Proof.Lbp

open Cert.KernelIdeal Cert.KernelIdeal.Gen

open Idealize.ShloMosaic Idealize.ShloMosaic.Pointwise
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [∀ e, Nonempty (Elt F e)]

local notation "𝕄" => MT nD τ sig (HIx 1) (Elt F) ℕ UU ℕ

/-! ## The bodies' accesses and results -/

abbrev rC (o : Fin 4 → ℕ) (h : ∀ a, o a + S1x1x512x512.size a ≤ S1x3x512x512.size a) : Rect S1x3x512x512 :=
  Rect.unit (s := S1x3x512x512) o S1x1x512x512.size h
abbrev rW : Rect S1x128x512 := Rect.unit (s := S1x128x512) ![0, 0, 0] S1x128x512.size inb_S1x128x512_S1x128x512_0_0_0
abbrev rH : Rect S1x1x256 := Rect.unit (s := S1x1x256) ![0, 0, 0] S1x1x256.size inb_S1x1x256_S1x1x256_0_0_0

/-- The packed codes from the three colour planes. -/
def packed (r g b : Vec F S1x1x512x512 .f32) : Vec F S1x128x512 .i32 :=
  k0_pay1 (k0_pay2 r g b) (k0_pay3 r g b) (k0_pay4 r g b) (k0_pay5 r g b)

/-- What the first body leaves: the codes of the image block. -/
def codeBlk (x : Vec F S1x3x512x512 .f32) : Vec F S1x128x512 .i32 :=
  View.canon [⟨rW, packed (View.ld x (rC ![0, 0, 0, 0] inb_S1x3x512x512_S1x1x512x512_0_0_0_0))
    (View.ld x (rC ![0, 1, 0, 0] inb_S1x3x512x512_S1x1x512x512_0_1_0_0)) (View.ld x (rC ![0, 2, 0, 0] inb_S1x3x512x512_S1x1x512x512_0_2_0_0))⟩]

/-- What the second body leaves: the histogram's row normalised. -/
def normBlk (x : Vec F S1x1x256 .f32) : Vec F S1x1x256 .f32 := View.canon [⟨rH, k2_pay1 (View.ld x rH)⟩]

theorem sound_code (c : Dev nD) (E : Set ℕ) (i : grid0.Coords) (arg1 : Memref sig .tc .vmem S1x3x512x512 .f32) (h1 : arg1.IsWhole)
    (arg2 : Memref sig .tc .vmem S1x128x512 .i32) (h2 : arg2.IsWhole) (x : Vec F S1x3x512x512 .f32) (Q : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (codeBlk x)) -∗ Q ⟨⟩))
      ⊢ wp frame (wpE (defs₀ (F := F)) 𝒱₀ c none) E (cc0__code_body i arg1 h1 arg2 h2) Q := by
  simp only [cc0__code_body_eq_skeleton]; unfold cc0__code_body_skel
  simp only [k0_part1_eq_skeleton]
  unfold owns
  iintro ⟨⟨%f1, %hf1, H1⟩, ⟨%d2, %f2, -, H2⟩, Hk⟩
  subst hf1
  sl_exec
  sl_step
  iapply Hk
  isplitl [H1]
  · iexists f1; isplitr; · ipureintro; rfl
    iexact H1
  iexists _; isplitr
  swap; · iexact H2
  ipureintro
  exact View.read_writes_eq_canon _ _ _ (View.cover_of_tiled _ S1x128x512.size (by rfl))

theorem sound_norm (c : Dev nD) (E : Set ℕ) (i : grid2.Coords) (arg1 : Memref sig .tc .vmem S1x1x256 .f32) (h1 : arg1.IsWhole)
    (arg2 : Memref sig .tc .vmem S1x1x256 .f32) (h2 : arg2.IsWhole) (x : Vec F S1x1x256 .f32) (Q : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (normBlk x)) -∗ Q ⟨⟩))
      ⊢ wp frame (wpE (defs₀ (F := F)) 𝒱₀ c none) E (cc2__reduce_body i arg1 h1 arg2 h2) Q := by
  simp only [cc2__reduce_body_eq_skeleton]; unfold cc2__reduce_body_skel
  unfold owns
  iintro ⟨⟨%f1, %hf1, H1⟩, ⟨%d2, %f2, -, H2⟩, Hk⟩
  subst hf1
  sl_exec
  sl_step
  iapply Hk
  isplitl [H1]
  · iexists f1; isplitr; · ipureintro; rfl
    iexact H1
  iexists _; isplitr
  swap; · iexact H2
  ipureintro
  exact View.read_writes_eq_canon _ _ _ (View.cover_of_tiled _ S1x1x256.size (by rfl))

/-! ## The proof data of the two regions -/

/-- A block of a windowed array at a point. -/
abbrev blk0 (A : Vals (F := F)) (c : Dev nD) (t : Fin cfg0.N) : Vec F S1x3x512x512 .f32 := ((cfg0.win 0).blk t).view.read (Elt F) (A c main_v0)
abbrev blk2 (A : Vals (F := F)) (c : Dev nD) (t : Fin cfg2.N) : Vec F S1x1x256 .f32 := ((cfg2.win 0).blk t).view.read (Elt F) (A c main_v2)

/-- The codes' region, entered with the buffers at `A`. -/
def dat0 (A : Vals (F := F)) (c : Dev nD) : Dat τ (Elt F) (HIx 1) ℕ UU ℕ cfg0 c where
  A w := A c (Pipeline.arrRef spec0 w)
  after w t := match w with
    | ⟨0, _⟩ => blk0 A c t
    | ⟨1, _⟩ => codeBlk (blk0 A c t)
  Φ _ := Pipeline.scopedRest spec0 c
  q _ := fullShare
  owed _ := (K (F := F)).Otc c 0
  recorded _ := waited (F := F) 0 c

/-- The normalisation's region, entered with the buffers at `A`. -/
def dat2 (A : Vals (F := F)) (c : Dev nD) : Dat τ (Elt F) (HIx 1) ℕ UU ℕ cfg2 c where
  A w := A c (Pipeline.arrRef spec2 w)
  after w t := match w with
    | ⟨0, _⟩ => blk2 A c t
    | ⟨1, _⟩ => normBlk (blk2 A c t)
  Φ _ := Pipeline.scopedRest spec2 c
  q _ := fullShare
  owed _ := (K (F := F)).Otc c 1
  recorded _ := waited (F := F) 8 c

variable (A : Vals (F := F))

theorem after0_0 (c : Dev nD) (t : Fin cfg0.N) : (dat0 A c).after 0 t = blk0 A c t := by dsimp only [dat0]
theorem after0_1 (c : Dev nD) (t : Fin cfg0.N) : (dat0 A c).after 1 t = codeBlk (blk0 A c t) := by dsimp only [dat0]
theorem after2_0 (c : Dev nD) (t : Fin cfg2.N) : (dat2 A c).after 0 t = blk2 A c t := by dsimp only [dat2]
theorem after2_1 (c : Dev nD) (t : Fin cfg2.N) : (dat2 A c).after 1 t = normBlk (blk2 A c t) := by dsimp only [dat2]

theorem before0_0 (c : Dev nD) (t : Fin cfg0.N) (d) : (dat0 A c).before 0 t d = blk0 A c t :=
  ((dat0 A c).before_in_eq_fetched 0 rfl (fun _ => rfl) (fun _ _ _ => rfl) (fun _ => rfl) t d).trans rfl
theorem before2_0 (c : Dev nD) (t : Fin cfg2.N) (d) : (dat2 A c).before 0 t d = blk2 A c t :=
  ((dat2 A c).before_in_eq_fetched 0 rfl (fun _ => rfl) (fun _ _ _ => rfl) (fun _ => rfl) t d).trans rfl

theorem row0 (t : Fin cfg0.N) : defs₀ (F := F) .tc cfg0.body (cfg0.bodyArgs t (cfg0.slots t)) = bodyAt0 t := by
  unfold defs₀; rfl
theorem row2 (t : Fin cfg2.N) : defs₀ (F := F) .tc cfg2.body (cfg2.bodyArgs t (cfg2.slots t)) = bodyAt2 t := by
  unfold defs₀; rfl

theorem sound_body0 (c : Dev nD) (t : Fin cfg0.N) :
    iprop((dat0 A c).Φ t.castSucc ∗ (dat0 A c).owesAt none t.castSucc
        ∗ (∃ d, owns (c : Thread nD τ) (st0_0 t) fullShare ((dat0 A c).before 0 t d))
        ∗ (∃ d, owns (c : Thread nD τ) (st0_1 t) fullShare ((dat0 A c).before 1 t d)))
      ⊢ wp frame (wpE (defs₀ (F := F)) 𝒱₀ c none) Set.univ (bodyAt0 t) fun _ =>
        iprop((dat0 A c).Φ t.succ ∗ (dat0 A c).owesAt none t.succ
          ∗ owns (c : Thread nD τ) (st0_0 t) fullShare ((dat0 A c).after 0 t)
          ∗ owns (c : Thread nD τ) (st0_1 t) fullShare ((dat0 A c).after 1 t)) := by
  unfold bodyAt0
  simp only [before0_0]
  rw [show (dat0 A c).Φ t.succ = (dat0 A c).Φ t.castSucc from rfl,
    show (dat0 A c).owesAt none t.succ = (dat0 A c).owesAt none t.castSucc from rfl, after0_0, after0_1]
  iintro ⟨HΦ, Ho, ⟨%d0, H0⟩, ⟨%d1, H1⟩⟩
  iapply (sound_code c Set.univ _ _ _ _ _ (blk0 A c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem sound_body2 (c : Dev nD) (t : Fin cfg2.N) :
    iprop((dat2 A c).Φ t.castSucc ∗ (dat2 A c).owesAt none t.castSucc
        ∗ (∃ d, owns (c : Thread nD τ) (st2_0 t) fullShare ((dat2 A c).before 0 t d))
        ∗ (∃ d, owns (c : Thread nD τ) (st2_1 t) fullShare ((dat2 A c).before 1 t d)))
      ⊢ wp frame (wpE (defs₀ (F := F)) 𝒱₀ c none) Set.univ (bodyAt2 t) fun _ =>
        iprop((dat2 A c).Φ t.succ ∗ (dat2 A c).owesAt none t.succ
          ∗ owns (c : Thread nD τ) (st2_0 t) fullShare ((dat2 A c).after 0 t)
          ∗ owns (c : Thread nD τ) (st2_1 t) fullShare ((dat2 A c).after 1 t)) := by
  unfold bodyAt2
  simp only [before2_0]
  rw [show (dat2 A c).Φ t.succ = (dat2 A c).Φ t.castSucc from rfl,
    show (dat2 A c).owesAt none t.succ = (dat2 A c).owesAt none t.castSucc from rfl, after2_0, after2_1]
  iintro ⟨HΦ, Ho, ⟨%d0, H0⟩, ⟨%d1, H1⟩⟩
  iapply (sound_norm c Set.univ _ _ _ _ _ (blk2 A c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem oblig0 (c : Dev nD) : BodyObligation (dat0 A c) (defs₀ (F := F)) 𝒱₀ none Set.univ := fun t => by
  rw [bigSep_W0, bigSep_W0, row0]
  exact triple_restated (sound_body0 A c t) rfl .rfl fun _ => .rfl
theorem oblig2 (c : Dev nD) : BodyObligation (dat2 A c) (defs₀ (F := F)) 𝒱₀ none Set.univ := fun t => by
  rw [bigSep_W2, bigSep_W2, row2]
  exact triple_restated (sound_body2 A c t) rfl .rfl fun _ => .rfl

/-! ## The arrays the regions leave -/

/-- The codes of every image. -/
def codes (X : S32x3x512x512.Idx → Elt F .f32) : S32x128x512.Idx → BitVec 32 := fun x =>
  codeBlk (F := F) (fun y => X (ix4 (x 0) (y 1) (y 2) (y 3))) (ix3 0 (x 1) (x 2))

/-- Every histogram normalised. -/
def normed (H : S32x1x256.Idx → Elt F .f32) : S32x1x256.Idx → Elt F .f32 := fun x =>
  normBlk (F := F) (fun y => H (ix3 (x 0) (y 1) (y 2))) (ix3 0 (x 1) (x 2))

theorem index0_0 : ∀ t : Fin cfg0.N, win0_0.index t = ![(grid0.coords t 0).val, 0, 0, 0] := (by decide +kernel : ∀ t : Fin grid0.N, _)
theorem index0_1 : ∀ t : Fin cfg0.N, win0_1.index t = ![(grid0.coords t 0).val, 0, 0] := (by decide +kernel : ∀ t : Fin grid0.N, _)
theorem index2_0 : ∀ t : Fin cfg2.N, win2_0.index t = ![(grid2.coords t 0).val, 0, 0] := (by decide +kernel : ∀ t : Fin grid2.N, _)
theorem index2_1 : ∀ t : Fin cfg2.N, win2_1.index t = ![(grid2.coords t 0).val, 0, 0] := (by decide +kernel : ∀ t : Fin grid2.N, _)

theorem final0 (c : Dev nD) : (dat0 A c).arrAt 1 cfg0.N = codes (A c main_v0) := by
  refine (dat0 A c).arrAt_eq_of_covers 1 _ (by decide +kernel) fun t hf y => ?_
  blk_simp
  rw [after0_1]
  have h0 : (y 0).val < 1 := (y 0).isLt
  have hy : y = (ix3 0 ((win0_1.blk t).view.emb y 1) ((win0_1.blk t).view.emb y 2) : S1x128x512.Idx) := by
    funext a; apply Fin.ext
    match a with
    | 0 => show (y 0).val = 0; omega
    | 1 => show (y 1).val = ((win0_1.blk t).view.emb y 1).val; blk_simp [index0_1]
    | 2 => show (y 2).val = ((win0_1.blk t).view.emb y 2).val; blk_simp [index0_1]
  have hX : blk0 A c t = fun z : S1x3x512x512.Idx => A c main_v0 (ix4 ((win0_1.blk t).view.emb y 0) (z 1) (z 2) (z 3)) := by
    funext z
    have hz : (z 0).val < 1 := (z 0).isLt
    refine ((View.read_apply _ _).trans (cast_eq _ _)).trans ?_
    refine congrArg (A c main_v0) (funext fun a => Fin.ext ?_)
    match a with
    | 0 => show ((win0_0.blk t).view.emb z 0).val = ((win0_1.blk t).view.emb y 0).val; blk_simp [index0_0, index0_1]
    | 1 => show ((win0_0.blk t).view.emb z 1).val = (z 1).val; blk_simp [index0_0]
    | 2 => show ((win0_0.blk t).view.emb z 2).val = (z 2).val; blk_simp [index0_0]
    | 3 => show ((win0_0.blk t).view.emb z 3).val = (z 3).val; blk_simp [index0_0]
  show codeBlk (blk0 A c t) y = codeBlk _ _
  rw [hX]
  exact congrArg _ hy

theorem final2 (c : Dev nD) : (dat2 A c).arrAt 1 cfg2.N = normed (A c main_v2) := by
  refine (dat2 A c).arrAt_eq_of_covers 1 _ (by decide +kernel) fun t hf y => ?_
  blk_simp
  rw [after2_1]
  have h0 : (y 0).val < 1 := (y 0).isLt
  have hy : y = (ix3 0 ((win2_1.blk t).view.emb y 1) ((win2_1.blk t).view.emb y 2) : S1x1x256.Idx) := by
    funext a; apply Fin.ext
    match a with
    | 0 => show (y 0).val = 0; omega
    | 1 => show (y 1).val = ((win2_1.blk t).view.emb y 1).val; blk_simp [index2_1]
    | 2 => show (y 2).val = ((win2_1.blk t).view.emb y 2).val; blk_simp [index2_1]
  have hX : blk2 A c t = fun z : S1x1x256.Idx => A c main_v2 (ix3 ((win2_1.blk t).view.emb y 0) (z 1) (z 2)) := by
    funext z
    have hz : (z 0).val < 1 := (z 0).isLt
    refine ((View.read_apply _ _).trans (cast_eq _ _)).trans ?_
    refine congrArg (A c main_v2) (funext fun a => Fin.ext ?_)
    match a with
    | 0 => show ((win2_0.blk t).view.emb z 0).val = ((win2_1.blk t).view.emb y 0).val; blk_simp [index2_0, index2_1]
    | 1 => show ((win2_0.blk t).view.emb z 1).val = (z 1).val; blk_simp [index2_0]
    | 2 => show ((win2_0.blk t).view.emb z 2).val = (z 2).val; blk_simp [index2_0]
  show normBlk (blk2 A c t) y = normBlk _ _
  rw [hX]
  exact congrArg _ hy

end Cert.Proof.Lbp

end
-- ==== Proof.Launch.lean ====
/-
  The whole program's run: the codes' region, the SparseCore call, the normalisation's region, and what they leave.
-/
module

public import proofs.«01_k».proof.Proof.Deal
public import proofs.«01_k».proof.Proof.Blocks
public import Idealize.ShloMosaic.Lib.Pipeline.Frame

@[expose] public section

set_option maxRecDepth 16384

noncomputable section

namespace Cert.Proof.Lbp

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Tactic
open Idealize.ShloMosaic.Pipeline (Dat Cfg Window BodyObligation cellOf ucRefs)

variable {F : FTy → Type} [FloatOps F] [∀ e, Nonempty (Elt F e)]

local notation "𝕄" => MT nD τ sig (HIx 1) (Elt F) ℕ UU ℕ

/-! ## The launch's ghost state -/

/-- The pipelines' rounds, beside the handshakes'. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP (F := F) : Emb UP 𝕄).LandsIn (upEmb : UEmb _ 𝕄) := by unfold EP; infer_instance

abbrev pinned : (p : Fin 2) → Cfg sig Λ₀ := Pipeline.pin (pcfgs (F := F)) adm

theorem pinned_inj : Function.Injective (cellOf (nD := nD) (τ := τ) (pinned (F := F))) := cellOf_inj

/-- The pipelines' cells and tokens at launch. -/
def uP : UP := initOf (Pipeline.cells (pinned (F := F)) pinned_inj) (Pipeline.launchToks (nD := nD) (τ := τ) (pinned (F := F)) pinned_inj)

def u₀ : UU := (initOf (K (F := F)).hsCells (K (F := F)).hsToks, (uP (F := F), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- A core's share of it. -/
abbrev G (d : Dev nD) : sProp 𝕄 :=
  iprop((bigSep Finset.univ fun p => Pipeline.cellsGhost (pinned (F := F)) EP p d)
    ∗ bigSep Finset.univ fun p => Pipeline.toksInit (pinned (F := F)) EP p d)

variable (C : Dev nD → S32x128x512.Idx → BitVec 32)

theorem emps_eq {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P (F := F) C).x q thr) := by
  unfold u₀
  iintro Hu
  ihave H := (ownU_split (F := F) (initOf (K (F := F)).hsCells (K (F := F)).hsToks) (uP (F := F))) $$ Hu
  icases H with ⟨HH, HP⟩
  unfold uP
  imod (Pipeline.fund_ghost (pinned (F := F)) (EP (F := F)) pinned_inj) $$ HP with ⟨Hc, Ht⟩
  imodintro
  isplitl [HH]; · iexact HH
  isplitl [Hc Ht]
  · rw [bigSep_sep']
    isplitl [Hc] <;> iassumption
  rw [show (bigSep Finset.univ fun thr : Thread nD τ => bigSep Finset.univ fun q : Fin 1 => (P (F := F) C).x q thr) = bigSep Finset.univ fun _ => iprop(emp) from
    bigSep_congr fun _ _ => bigSep_univ_of_subsingleton (0 : Fin 1), emps_eq]
  iempintro

/-! ## A region, as a step of the program -/

/-- The two pipelines' data, entered with the buffers at `A`. -/
def pd (A : Vals (F := F)) : (p : Fin 2) → (c : Dev nD) → Dat τ (Elt F) (HIx 1) ℕ UU ℕ (pinned (F := F) p) c
  | 0 => fun c => dat0 A c
  | 1 => fun c => dat2 A c

theorem region_step {p : Fin 2} {A : Vals (F := F)}
    (R : Pipeline.RegionSeg (pcfgs (F := F)) adm (pd A) none defs₀ 𝒱₀ (K (F := F)).L (K (F := F)).lev p) (d : Dev nD) (Φ : PUnit → sProp 𝕄) :
    iprop(boundary (T d) ∗ R.pre d ∗ levAts (K (F := F)).L (K (F := F)).lev ∗ Pipeline.cellsGhost (pinned (F := F)) EP p d
        ∗ Pipeline.toksInit (pinned (F := F)) EP p d ∗ (iprop(boundary (T d) ∗ R.post d) -∗ Φ ⟨⟩))
      ⊢ wp frame (wpE ((K (F := F)).defs (D (F := F))) 𝒱 (T d) none) Set.univ
          (Prog.lift (.customCall (SparseCore.inner (Pipeline.entry p)) ())) Φ := by
  refine BI.Entails.trans ?_ ((K (F := F)).wp_liftProg (D (F := F)) 𝒱 (T d) Set.univ none (.op (.customCall (Pipeline.entry p) ()) .ret) Φ)
  refine BI.Entails.trans ?_ (Pipeline.RegionSeg.wp (pcfgs (F := F)) adm (pd A) none pinned_inj (EP (F := F)) defs₀ 𝒱₀ (K (F := F)).L (K (F := F)).lev
    R d none (fun u hu => nomatch hu) .ret Φ)
  show (_ : sProp 𝕄) ⊢ (_ : sProp 𝕄)
  iintro ⟨Hb, Hpre, Hl, Hg, Ht, Hk⟩
  isplitl [Hk]
  · iintro H
    rw [wp_ret]; imodintro
    iapply Hk; iexact H
  isplitl [Hb]; · iexact Hb
  isplitl [Hpre]; · iexact Hpre
  isplitl [Hl]; · iexact Hl
  isplitl [Hg] <;> iassumption

/-! ## The buffers, call by call -/

abbrev dArg : DevRef τ sig := Proc.devRef .tc (main_arg0 : Ref sig .tc)
abbrev d0 : DevRef τ sig := Proc.devRef .tc (main_v0 : Ref sig .tc)
abbrev d1 : DevRef τ sig := Proc.devRef .tc (main_v1 : Ref sig .tc)
abbrev d2 : DevRef τ sig := Proc.devRef .tc (main_v2 : Ref sig .tc)
abbrev d3 : DevRef τ sig := Proc.devRef .tc (main_v3 : Ref sig .tc)
abbrev d4 : DevRef τ sig := Proc.devRef .tc (main_v4 : Ref sig .tc)

abbrev opS : HloOp τ sig (Elt F) :=
  StableHlo.unary main_arg0 main_v0 ((extractStridedSlice S32x3x512x512 ![0, 0, 0, 0] · slices_S32x3x512x512_S32x3x512x512_0_0_0_0) :
    (⟨S32x3x512x512, .f32⟩ : BufTy).Contents (Elt F) → (⟨S32x3x512x512, .f32⟩ : BufTy).Contents (Elt F))
abbrev opR : HloOp τ sig (Elt F) :=
  StableHlo.reshape main_v3 main_v4 (rfl : (.f32 : EltTy) = .f32) shapeCasts_S32x1x256_S32x256

variable (m : (ℓ : Loc nD τ sig) → Buf (Elt F) ℓ)

def V0 (d : Dev nD) : Valuation τ sig (Elt F) := fun b => m (d, b)
def V1 (d : Dev nD) : Valuation τ sig (Elt F) := (opS (F := F)).result (V0 m d)
/-- The codes the first region leaves, and the histograms the SparseCores leave. -/
def Cm (d : Dev nD) : S32x128x512.Idx → BitVec 32 := codes (V1 m d d0)
def V2 (d : Dev nD) : Valuation τ sig (Elt F) := Function.update (V1 m d) d1 (Cm m d)
def V3 (d : Dev nD) : Valuation τ sig (Elt F) := Function.update (V2 m d) d2 (hOut (F := F) (Cm m d))
def V4 (d : Dev nD) : Valuation τ sig (Elt F) := Function.update (V3 m d) d3 (normed (hOut (F := F) (Cm m d)))
def V5 (d : Dev nD) : Valuation τ sig (Elt F) := (opR (F := F)).result (V4 m d)

/-- A device's buffers at a valuation. -/
abbrev vals (W : Dev nD → Valuation τ sig (Elt F)) : Vals (F := F) := fun c b => W c (Proc.devRef .tc b)

theorem unscopedBufs_eq (d : Dev nD) (W : (b : Ref sig .tc) → Buf (Elt F) ((d.tc : Thread nD τ).loc b)) :
    (unscopedBufs d W : sProp 𝕄) = iprop(((T d : Thread nD τ).loc main_arg0 ↦{fullShare} W main_arg0) ∗ ((T d : Thread nD τ).loc main_v0 ↦{fullShare} W main_v0)
      ∗ (cLoc d ↦{fullShare} W main_v1) ∗ (hLoc d ↦{fullShare} W main_v2) ∗ ((T d : Thread nD τ).loc main_v3 ↦{fullShare} W main_v3)
      ∗ (T d : Thread nD τ).loc main_v4 ↦{fullShare} W main_v4) := by
  unfold unscopedBufs
  rw [show (Finset.univ.filter fun b : Ref sig .tc => ¬ b.isScoped) = {main_arg0, main_v0, main_v1, main_v2, main_v3, main_v4} by decide,
    SparseCore.bigSep_insert' (by decide), SparseCore.bigSep_insert' (by decide), SparseCore.bigSep_insert' (by decide), SparseCore.bigSep_insert' (by decide),
    SparseCore.bigSep_insert' (by decide), bigSep_singleton]

theorem V2_d1 (d : Dev nD) : V2 m d d1 = Cm m d := Function.update_self _ _ _
theorem V3_d2 (d : Dev nD) : V3 m d d2 = hOut (F := F) (Cm m d) := Function.update_self _ _ _
theorem V4_d3 (d : Dev nD) : V4 m d d3 = normed (hOut (F := F) (Cm m d)) := Function.update_self _ _ _
theorem V2_ne (d : Dev nD) {b : Ref sig .tc} (h : b ≠ main_v1) : V2 m d (Proc.devRef .tc b) = V1 m d (Proc.devRef .tc b) :=
  Function.update_of_ne (fun e => h (Proc.devRef_injective _ e)) _ _
theorem V3_ne (d : Dev nD) {b : Ref sig .tc} (h : b ≠ main_v2) : V3 m d (Proc.devRef .tc b) = V2 m d (Proc.devRef .tc b) :=
  Function.update_of_ne (fun e => h (Proc.devRef_injective _ e)) _ _
theorem V4_ne (d : Dev nD) {b : Ref sig .tc} (h : b ≠ main_v3) : V4 m d (Proc.devRef .tc b) = V3 m d (Proc.devRef .tc b) :=
  Function.update_of_ne (fun e => h (Proc.devRef_injective _ e)) _ _

theorem V5_arg (d : Dev nD) : V5 m d dArg = m ((T d : Thread nD τ).loc main_arg0) := by
  unfold V5
  rw [reshape_result_ne (h := show (main_arg0 : Ref sig .tc) ≠ main_v4 by decide), V4_ne m d (by decide), V3_ne m d (by decide), V2_ne m d (by decide)]
  unfold V1
  rw [unary_result_ne (h := show (main_arg0 : Ref sig .tc) ≠ main_v0 by decide)]
  rfl

/-! ## The two regions -/

def R0 : Pipeline.RegionSeg (pcfgs (F := F)) adm (pd (vals (V1 m))) none defs₀ 𝒱₀ (K (F := F)).L (K (F := F)).lev 0 :=
  seg 0 0 0 (pd (vals (V1 m))) launch0 (vals (V1 m)) (vals (V2 m)) (fun _ _ => rfl) (fun _ _ => rfl) (fun _ _ => rfl) (fun _ _ => rfl) (fun _ _ => rfl)
    (fun c => oblig0 (vals (V1 m)) c)
    (fun c w => match w with
      | 0 => (Dat.arrAt_in (dat0 (vals (V1 m)) c) 0 rfl cfg0.N).trans (V2_ne m c (b := main_v0) (by decide)).symm
      | 1 => (final0 (vals (V1 m)) c).trans (V2_d1 m c).symm)
    (fun c b hb => V2_ne m c fun e => hb (e ▸ Finset.mem_image.mpr ⟨1, Finset.mem_univ _, rfl⟩))

def R2 : Pipeline.RegionSeg (pcfgs (F := F)) adm (pd (vals (V3 m))) none defs₀ 𝒱₀ (K (F := F)).L (K (F := F)).lev 1 :=
  seg 1 1 8 (pd (vals (V3 m))) launch2 (vals (V3 m)) (vals (V4 m)) (fun _ _ => rfl) (fun _ _ => rfl) (fun _ _ => rfl) (fun _ _ => rfl) (fun _ _ => rfl)
    (fun c => oblig2 (vals (V3 m)) c)
    (fun c w => match w with
      | 0 => (Dat.arrAt_in (dat2 (vals (V3 m)) c) 0 rfl cfg2.N).trans (V4_ne m c (b := main_v2) (by decide)).symm
      | 1 => (final2 (vals (V3 m)) c).trans ((congrArg normed (V3_d2 m c)).trans (V4_d3 m c).symm))
    (fun c b hb => V4_ne m c fun e => hb (e ▸ Finset.mem_image.mpr ⟨1, Finset.mem_univ _, rfl⟩))

theorem R0_pre (d : Dev nD) : iprop(unscopedBufs d (vals (V1 m) d) ∗ duesAt 0 0 d) ⊢ ((R0 m).pre d : sProp 𝕄) := .rfl
theorem R0_post (d : Dev nD) : ((R0 m).post d : sProp 𝕄) ⊢ iprop(unscopedBufs d (vals (V2 m) d) ∗ duesAt 0 0 d) := .rfl
theorem R2_pre (d : Dev nD) : iprop(unscopedBufs d (vals (V3 m) d) ∗ duesAt 1 8 d) ⊢ ((R2 m).pre d : sProp 𝕄) := .rfl
theorem R2_post (d : Dev nD) : ((R2 m).post d : sProp 𝕄) ⊢ iprop(unscopedBufs d (vals (V4 m) d) ∗ duesAt 1 8 d) := .rfl

/-! ## @main on the TensorCore -/

abbrev aLoc (d : Dev nD) : Loc nD τ sig := (T d : Thread nD τ).loc main_arg0
abbrev rLoc (d : Dev nD) : Loc nD τ sig := (T d : Thread nD τ).loc main_v4

/-- What @main leaves the claim: the images as they were, the result at its value. -/
abbrev FIN (d : Dev nD) : sProp 𝕄 := iprop((aLoc d ↦{fullShare} m (aLoc d)) ∗ rLoc d ↦{fullShare} V5 m d d4)

/-- The debts before call `n`, out of the TensorCore's state, and back. -/
theorem tcSt_dues (d : Dev nD) (n : ℕ) :
    ((K (F := F)).tcSt EH d n : sProp 𝕄) ⊢ iprop(duesAt n (8 * n) d ∗ (duesAt n (8 * n) d -∗ (K (F := F)).tcSt EH d n)) := by
  unfold SparseCore.Cfg.tcSt
  iintro ⟨HO, Hrest⟩
  isplitl [HO]; · iexact HO
  iintro HO
  isplitl [HO]; · iexact HO
  iexact Hrest

theorem tcSt_dues0 (d : Dev nD) :
    ((K (F := F)).tcSt EH d 0 : sProp 𝕄) ⊢ iprop(duesAt 0 0 d ∗ (duesAt 0 0 d -∗ (K (F := F)).tcSt EH d (0 : Fin 1).val)) := tcSt_dues d 0
theorem tcSt_dues1 (d : Dev nD) :
    ((K (F := F)).tcSt EH d ((0 : Fin 1).val + 1) : sProp 𝕄) ⊢ iprop(duesAt 1 8 d ∗ (duesAt 1 8 d -∗ (K (F := F)).tcSt EH d 1)) := tcSt_dues d 1

theorem held_V1 (d : Dev nD) : (held (T d) (ucRefs τ sig) ((opS (F := F)).result (V0 m d)) : sProp 𝕄) ⊢ unscopedBufs d (vals (V1 m) d) :=
  Entails.of_eq (Pipeline.unscopedBufs_held d (V1 m d)).symm
theorem held_V4 (d : Dev nD) : (unscopedBufs d (vals (V4 m) d) : sProp 𝕄) ⊢ held (T d) (ucRefs τ sig) (V4 m d) :=
  Entails.of_eq (Pipeline.unscopedBufs_held d (V4 m d))
theorem held_V5 (d : Dev nD) : (held (T d) (ucRefs τ sig) ((opR (F := F)).result (V4 m d)) : sProp 𝕄) ⊢ unscopedBufs d (vals (V5 m) d) :=
  Entails.of_eq (Pipeline.unscopedBufs_held d (V5 m d)).symm

variable (ρ : Dev nD → PrngReg)

set_option maxHeartbeats 1600000 in
/-- @main on device `d`'s TensorCore. -/
theorem hmain (κ : GSem nD τ sig → ℕ) (d : Dev nD) :
    iprop((K (F := F)).ctx EH (P (Cm m)) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((T d : Thread nD τ).loc b)) : sProp 𝕄) = held (T d) (ucRefs τ sig) (V0 m d) from
    Pipeline.unscopedBufs_held d (V0 m d)]
  simp only [main, wp_bind, wp_pure]
  iintro ⟨#Hctx, Hst, ⟨Hb, Hheld, Hts, -⟩, ⟨Hgs, Hks⟩⟩
  ihave #Hlev := (SparseCore.Cfg.ctx_levAts κ) $$ Hctx
  ihave Hgs := (Entails.of_eq (bigSep_W0 _)) $$ Hgs
  ihave Hks := (Entails.of_eq (bigSep_W0 _)) $$ Hks
  icases Hgs with ⟨Hg0, Hg1⟩
  icases Hks with ⟨Hk0, Hk1⟩
  -- the whole array, copied
  iapply (wp_hlo_within 𝒱 (T d) none Set.univ (op := opS) (S := ucRefs τ sig) (Pipeline.sub_ucRefs _ (by simp)) (V := V0 m d)) $$ [Hb Hheld]
  · isplitl [Hb] <;> iassumption
  iintro ⟨Hb, Hheld⟩
  rw [wp_ret]; imodintro
  ihave Hheld := (held_V1 m d) $$ Hheld
  -- the codes
  ihave Hst := (tcSt_dues0 d) $$ Hst
  icases Hst with ⟨HO, Hst⟩
  iapply (region_step (R0 m) d) $$ [Hb Hheld HO Hg0 Hk0 Hst Hg1 Hk1 Hts]
  isplitl [Hb]; · iexact Hb
  isplitl [Hheld HO]
  · iapply (R0_pre m d)
    isplitl [Hheld]; · iexact Hheld
    iexact HO
  isplitr; · iexact Hlev
  isplitl [Hg0]; · iexact Hg0
  isplitl [Hk0]; · iexact Hk0
  iintro ⟨Hb, Hpost⟩
  ihave Hpost := (R0_post m d) $$ Hpost
  icases Hpost with ⟨Hbufs, HO⟩
  ihave Hst := Hst $$ HO
  ihave Hbufs := (Entails.of_eq (unscopedBufs_eq d _)) $$ Hbufs
  icases Hbufs with ⟨Ha, H0, H1, H2, H3, H4⟩
  -- the histograms, on the SparseCores
  iapply ((K (F := F)).wp_run (D (F := F)) 𝒱 (EH := EH) (P := P (Cm m)) κ d 0) $$ [Hst Ha H0 H1 H2 H3 H4 Hb Hg1 Hk1 Hts]
  isplitr; · iexact Hctx
  isplitl [Hst]; · iexact Hst
  isplitl [H1 H2]
  · iapply (deal (Cm m) d _)
    rw [show vals (V2 m) d main_v1 = Cm m d from V2_d1 m d]
    isplitl [H1] <;> iassumption
  iintro ⟨Hst, Hdn⟩
  ihave Hdn := (gather (Cm m) d) $$ Hdn
  icases Hdn with ⟨H1, H2⟩
  -- the normalisation
  ihave Hst := (tcSt_dues1 d) $$ Hst
  icases Hst with ⟨HO, Hst⟩
  iapply (region_step (R2 m) d) $$ [Hb Ha H0 H1 H2 H3 H4 HO Hg1 Hk1 Hst Hts]
  isplitl [Hb]; · iexact Hb
  isplitl [Ha H0 H1 H2 H3 H4 HO]
  · iapply (R2_pre m d)
    isplitr [HO]
    · iapply (Entails.of_eq (unscopedBufs_eq d (vals (V3 m) d)).symm)
      rw [show vals (V3 m) d main_v2 = hOut (F := F) (Cm m d) from V3_d2 m d,
        show vals (V3 m) d main_arg0 = vals (V2 m) d main_arg0 from V3_ne m d (by decide),
        show vals (V3 m) d main_v0 = vals (V2 m) d main_v0 from V3_ne m d (by decide),
        show vals (V3 m) d main_v1 = Cm m d from (V3_ne m d (by decide)).trans (V2_d1 m d),
        show vals (V3 m) d main_v3 = vals (V2 m) d main_v3 from V3_ne m d (by decide),
        show vals (V3 m) d main_v4 = vals (V2 m) d main_v4 from V3_ne m d (by decide)]
      isplitl [Ha]; · iexact Ha
      isplitl [H0]; · iexact H0
      isplitl [H1]; · iexact H1
      isplitl [H2]; · iexact H2
      isplitl [H3] <;> iassumption
    · iexact HO
  isplitr; · iexact Hlev
  isplitl [Hg1]; · iexact Hg1
  isplitl [Hk1]; · iexact Hk1
  iintro ⟨Hb, Hpost⟩
  ihave Hpost := (R2_post m d) $$ Hpost
  icases Hpost with ⟨Hbufs, HO⟩
  ihave Hst := Hst $$ HO
  -- the result, reshaped
  ihave Hheld := (held_V4 m d) $$ Hbufs
  iapply (wp_hlo_within 𝒱 (T d) none Set.univ (op := opR) (S := ucRefs τ sig) (Pipeline.sub_ucRefs _ (by simp)) (V := V4 m d)) $$ [Hb Hheld]
  · isplitl [Hb] <;> iassumption
  iintro ⟨Hb, Hheld⟩
  ihave Hbufs := (held_V5 m d) $$ Hheld
  ihave Hbufs := (Entails.of_eq (unscopedBufs_eq d _)) $$ Hbufs
  icases Hbufs with ⟨Ha, -, -, -, -, Hr⟩
  rw [wp_ret]; imodintro; imodintro
  isplitl [Hst]; · iexact Hst
  isplitl [Ha Hr]
  · rw [show vals (V5 m) d main_arg0 = m (aLoc d) from V5_arg m d]
    isplitl [Ha] <;> iassumption
  isplitl [Hb] <;> iassumption

def fq (d : Dev nD) (s' : Phys nD τ sig (Elt F)) : Prop := s'.mem.mem (aLoc d) = m (aLoc d) ∧ s'.mem.mem (rLoc d) = V5 m d d4

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := V5 m d d4)) $$ [HSI Hr]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r =>
  (∀ c : Dev nD, r.2.mem (aLoc c) = m (aLoc c) ∧ r.2.mem (rLoc c) = V5 m c d4) ∧ r.2.sem = fun _ => 0

theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (Cm m)) (A := ∅) facts v₀
    (fun q hq => match q with | 0 => nomatch hq)
    (fun q _ => match q with | 0 => tileObl (Cm m) facts)
    (fun q _ => match q with | 0 => SparseCore.Cfg.VecSplit.of_plain (vecSplit (Cm m)))
    m ρ main (fun d => G d) (FIN m) (u₀ (F := F)) (sep_elim_left.trans (hu₀ (Cm m))) (hmain m ρ) (fq m) (hfin m) (QC m) (fun _ h hz => ⟨h, hz⟩)

end Cert.Proof.Lbp

end
-- ==== Proof.Same.lean ====
/- The program and its idealization run the same functions: no rewrite was applied, so each label of the one names
   the text of the same label of the other. -/
module

public import proofs.«01_k».proof.Proof.Gen.Kernel
public import proofs.«01_k».proof.Proof.Gen.KernelIdeal

@[expose] public section

noncomputable section

namespace Cert.Proof.Lbp

open Idealize.ShloMosaic

variable {F : FTy → Type} [FloatOps F]

/-- Label by label, the two programs' functions agree. -/
theorem defs₀_same : Cert.Kernel.defs₀ (F := F) = Cert.KernelIdeal.defs₀ (F := F) := by
  funext p l a
  cases p <;> fin_cases l <;> rfl

/-- The functions a run of either program draws on. -/
theorem defs_same : Cert.Kernel.defs (F := F) = Cert.KernelIdeal.defs (F := F) :=
  congrArg (fun x => Cert.KernelIdeal.sc.defs (Pipeline.defs Cert.KernelIdeal.pcfgs x)) defs₀_same

end Cert.Proof.Lbp

end

end
-- ==== Proof.Code.lean ====
/-
  The local binary pattern of a pixel, and that the first kernel's body packs it: the word of row `r` and column `c`
  holds the codes of rows `r`, `r + 128`, `r + 256` and `r + 384` of that column.
-/
module

public import proofs.«01_k».proof.Proof.Blocks
public import proofs.«01_k».proof.Proof.Hist

@[expose] public section

set_option maxRecDepth 16384

noncomputable section

namespace Cert.Proof.Lbp

open Cert.KernelIdeal Cert.KernelIdeal.Gen
open Idealize.ShloMosaic Idealize.ShloMosaic.Pointwise

/-- The grey value of a pixel. -/
def gray (X : S32x3x512x512.Idx → EReal) (i : Fin 32) (r c : Fin 512) : EReal :=
  Ideal.ofBits .f32 0x3E99096C#32 * X (ix4 i 0 r c) + Ideal.ofBits .f32 0x3F1645A2#32 * X (ix4 i 1 r c)
    + Ideal.ofBits .f32 0x3DE978D5#32 * X (ix4 i 2 r c)

/-- The row, or the column, of the image that one of the padded image repeats. -/
def cl (n : ℕ) : Fin 512 := ⟨min (n - 1) 511, by omega⟩

/-- Whether the neighbour at `(y - 1, x - 1)` is at least the pixel. -/
def nb (X : S32x3x512x512.Idx → EReal) (i : Fin 32) (r c : Fin 512) (y x : ℕ) : BitVec 1 :=
  Ideal.cmp .oge (gray X i (cl (y + r.val)) (cl (x + c.val))) (gray X i r c)

/-- The pattern's eight bits as a number. -/
def code (X : S32x3x512x512.Idx → EReal) (i : Fin 32) (r c : Fin 512) : ℕ :=
  (nb X i r c 0 0).toNat + 2 * (nb X i r c 0 1).toNat + 4 * (nb X i r c 0 2).toNat + 8 * (nb X i r c 1 2).toNat
    + 16 * (nb X i r c 2 2).toNat + 32 * (nb X i r c 2 1).toNat + 64 * (nb X i r c 2 0).toNat + 128 * (nb X i r c 1 0).toNat

theorem code_lt (X : S32x3x512x512.Idx → EReal) (i : Fin 32) (r c : Fin 512) : code X i r c < 256 := by
  have h := fun y x => (nb X i r c y x).isLt
  have := h 0 0; have := h 0 1; have := h 0 2; have := h 1 2; have := h 2 2; have := h 2 1; have := h 2 0; have := h 1 0
  unfold code; omega

/-! ## One image's block -/

variable (X : S32x3x512x512.Idx → EReal) (i : Fin 32)

/-- Colour plane `k` of the block. -/
abbrev plane (k : Fin 3) : S1x1x512x512.Idx → EReal := fun z => X (ix4 i k (z 2) (z 3))

theorem pay2_apply (r c : Fin 512) : k0_pay2 (F := Ideal) (plane X i 0) (plane X i 1) (plane X i 2) (ix2 r c) = gray X i r c := by
  pointwise [k0_pay2, gray]
  rfl

theorem gray_at {r r' c c' : Fin 512} (hr : r.val = r'.val) (hc : c.val = c'.val) : gray X i r c = gray X i r' c' := by
  rw [Fin.ext hr, Fin.ext hc]

theorem pay3_apply (p q : Fin 514) :
    k0_pay3 (F := Ideal) (plane X i 0) (plane X i 1) (plane X i 2) (ix2 p q) = gray X i (cl p.val) (cl q.val) := by
  have hp := p.isLt
  have hq := q.isLt
  unfold k0_pay3
  pointwise
  simp only [pay2_apply]
  split_ifs <;> exact gray_at X i (by simp only [cl]; omega) (by simp only [cl]; omega)

/-- The weighted sum of eight bits, in words. -/
theorem weighted (b0 b1 b2 b3 b4 b5 b6 b7 : BitVec 1) :
    IntOp.addi (IntOp.addi (IntOp.addi (IntOp.addi (IntOp.addi (IntOp.addi (IntOp.addi (IntOp.addi (0#32)
      (IntOp.muli (1#32) (BitVec.setWidth 32 b0))) (IntOp.muli (2#32) (BitVec.setWidth 32 b1)))
      (IntOp.muli (4#32) (BitVec.setWidth 32 b2))) (IntOp.muli (8#32) (BitVec.setWidth 32 b3)))
      (IntOp.muli (16#32) (BitVec.setWidth 32 b4))) (IntOp.muli (32#32) (BitVec.setWidth 32 b5)))
      (IntOp.muli (64#32) (BitVec.setWidth 32 b6))) (IntOp.muli (128#32) (BitVec.setWidth 32 b7))
      = BitVec.ofNat 32 (b0.toNat + 2 * b1.toNat + 4 * b2.toNat + 8 * b3.toNat + 16 * b4.toNat + 32 * b5.toNat
        + 64 * b6.toNat + 128 * b7.toNat) := by
  have := b0.isLt; have := b1.isLt; have := b2.isLt; have := b3.isLt
  have := b4.isLt; have := b5.isLt; have := b6.isLt; have := b7.isLt
  apply BitVec.eq_of_toNat_eq
  simp only [IntOp.addi, IntOp.muli, BitVec.toNat_add, BitVec.toNat_mul, BitVec.toNat_setWidth, BitVec.toNat_ofNat]
  omega

/-- Four bytes in a word. -/
def word (a b c d : ℕ) : BitVec 32 :=
  IntOp.ori (IntOp.ori (IntOp.ori (BitVec.ofNat 32 a) (IntOp.shli .vector (BitVec.ofNat 32 b) 8#32))
    (IntOp.shli .vector (BitVec.ofNat 32 c) 16#32)) (IntOp.shli .vector (BitVec.ofNat 32 d) 24#32)

theorem word_toNat {a b c d : ℕ} (ha : a < 256) (hb : b < 256) (hc : c < 256) (hd : d < 256) :
    (word a b c d).toNat = a + 2 ^ 8 * b + 2 ^ 16 * c + 2 ^ 24 * d := by
  have h1 : a ||| b <<< 8 = a + 2 ^ 8 * b := by
    rw [Nat.or_comm, ← Nat.shiftLeft_add_eq_or_of_lt (by omega), Nat.shiftLeft_eq]; omega
  have h2 : a + 2 ^ 8 * b ||| c <<< 16 = a + 2 ^ 8 * b + 2 ^ 16 * c := by
    rw [Nat.or_comm, ← Nat.shiftLeft_add_eq_or_of_lt (by omega), Nat.shiftLeft_eq]; omega
  have h3 : a + 2 ^ 8 * b + 2 ^ 16 * c ||| d <<< 24 = a + 2 ^ 8 * b + 2 ^ 16 * c + 2 ^ 24 * d := by
    rw [Nat.or_comm, ← Nat.shiftLeft_add_eq_or_of_lt (by omega), Nat.shiftLeft_eq]; omega
  have e : ∀ x k : ℕ, x < 256 → k < 25 → (IntOp.shli .vector (BitVec.ofNat 32 x) (BitVec.ofNat 32 k)).toNat = x <<< k := by
    intro x k hx hk
    have hp : 2 ^ k ≤ 2 ^ 24 := Nat.pow_le_pow_right (by omega) (by omega)
    have hm : x * 2 ^ k ≤ 255 * 2 ^ 24 := Nat.mul_le_mul (by omega) hp
    unfold IntOp.shli
    rw [BitVec.toNat_ofNat, Nat.mod_eq_of_lt (by omega), if_pos (by omega)]
    simp only [BitVec.shiftLeft_eq', BitVec.toNat_shiftLeft, BitVec.toNat_ofNat]
    rw [Nat.mod_eq_of_lt (a := k) (by omega), Nat.mod_eq_of_lt (a := x) (by omega), Nat.shiftLeft_eq]
    exact Nat.mod_eq_of_lt (by omega)
  unfold word
  show ((BitVec.ofNat 32 a ||| _) ||| _ ||| _).toNat = _
  rw [BitVec.toNat_or, BitVec.toNat_or, BitVec.toNat_or, e b 8 hb (by omega), e c 16 hc (by omega), e d 24 hd (by omega), BitVec.toNat_ofNat,
    Nat.mod_eq_of_lt (by omega), h1, h2, h3]

/-- A byte of a word, as a quotient. -/
theorem byte_eq (w : BitVec 32) (s : ℕ) (hs : s ≤ 24) : byte (BitVec.ofNat 32 s) w = w.toNat / 2 ^ s % 256 := by
  have h : IntOp.shrsi .vector w (BitVec.ofNat 32 s) &&& 255#32 = (w >>> s) &&& 255#32 := by
    have hm : s % 2 ^ 32 = s := Nat.mod_eq_of_lt (by omega)
    unfold IntOp.shrsi
    rw [BitVec.toNat_ofNat, hm, if_pos (by omega)]
    unfold BitVec.sshiftRight'
    rw [BitVec.toNat_ofNat, hm]
    apply BitVec.eq_of_getLsbD_eq
    intro k hk
    have h255 : (255#32).getLsbD k = decide (k < 8) := by
      revert k; decide
    simp only [BitVec.getLsbD_and, h255, BitVec.getLsbD_sshiftRight, BitVec.getLsbD_ushiftRight]
    by_cases h8 : k < 8
    · have h32 : s + k < 32 := by omega
      have hk' : ¬ 32 ≤ k := by omega
      simp [h8, h32, hk']
    · simp [h8]
  unfold byte
  rw [h, BitVec.toNat_and, BitVec.toNat_ushiftRight, Nat.shiftRight_eq_div_pow]
  exact Nat.and_two_pow_sub_one_eq_mod _ 8

/-- The words of the block. -/
theorem packed_apply (r : Fin 128) (c : Fin 512) :
    packed (F := Ideal) (plane X i 0) (plane X i 1) (plane X i 2) (ix3 0 r c)
      = word (code X i ⟨r.val, by omega⟩ c) (code X i ⟨128 + r.val, by omega⟩ c) (code X i ⟨256 + r.val, by omega⟩ c)
          (code X i ⟨384 + r.val, by omega⟩ c) := by
  unfold packed k0_pay1 k0_pay4 k0_pay5
  pointwise
  simp only [pay2_apply, pay3_apply, weighted]
  simp only [word, code, nb, Ideal.cmp, Nat.zero_add]

theorem ld_plane (k : Fin 3) (h : ∀ a, (![0, k.val, 0, 0] : Fin 4 → ℕ) a + S1x1x512x512.size a ≤ S1x3x512x512.size a) :
    View.ld (Val := Elt Ideal) (e' := .f32) (fun y : S1x3x512x512.Idx => X (ix4 i (y 1) (y 2) (y 3))) (rC ![0, k.val, 0, 0] h) = plane X i k := by
  funext z
  have h1 : (z 1).val < 1 := (z 1).isLt
  refine congrArg X (funext fun a => Fin.ext ?_)
  match a with
  | 0 => rfl
  | 1 => exact (Rect.idx_unit_val _ _ _ _ 1).trans (by show k.val + (z 1).val = k.val; omega)
  | 2 => exact (Rect.idx_unit_val _ _ _ _ 2).trans (Nat.zero_add _)
  | 3 => exact (Rect.idx_unit_val _ _ _ _ 3).trans (Nat.zero_add _)

theorem codes_eq (r : Fin 128) (c : Fin 512) :
    codes (F := Ideal) X (ix3 i r c) = packed (F := Ideal) (plane X i 0) (plane X i 1) (plane X i 2) (ix3 0 r c) := by
  show codeBlk (F := Ideal) (fun y => X (ix4 i (y 1) (y 2) (y 3))) (ix3 0 r c) = _
  unfold codeBlk
  rw [View.canon_unit_zero (by decide)]
  exact congrFun (congr (congr (congrArg (packed (F := Ideal)) (ld_plane X i 0 _)) (ld_plane X i 1 _)) (ld_plane X i 2 _)) _

/-- Byte `s / 8` of a word of the codes' array: the code of the row `16 s` below. -/
theorem codes_byte (r : Fin 128) (c : Fin 512) (k : Fin 4) :
    byte (BitVec.ofNat 32 (8 * k.val)) (codes (F := Ideal) X (ix3 i r c)) = code X i ⟨128 * k.val + r.val, by omega⟩ c := by
  rw [codes_eq, packed_apply, byte_eq _ _ (by omega), word_toNat (code_lt ..) (code_lt ..) (code_lt ..) (code_lt ..)]
  have h0 := code_lt X i ⟨r.val, by omega⟩ c
  have h1 := code_lt X i ⟨128 + r.val, by omega⟩ c
  have h2 := code_lt X i ⟨256 + r.val, by omega⟩ c
  have h3 := code_lt X i ⟨384 + r.val, by omega⟩ c
  match k with
  | 0 =>
    rw [show (⟨128 * (0 : Fin 4).val + r.val, by omega⟩ : Fin 512) = ⟨r.val, by omega⟩ from Fin.ext (by simp)]
    simp only [Fin.val_zero]; omega
  | 1 => show _ = code X i ⟨128 + r.val, _⟩ c; simp only [Fin.val_one]; omega
  | 2 => show _ = code X i ⟨256 + r.val, _⟩ c; simp only [Fin.val_two]; omega
  | 3 => show _ = code X i ⟨384 + r.val, _⟩ c; rw [show ((3 : Fin 4).val) = 3 from rfl]; omega

end Cert.Proof.Lbp

end
-- ==== Proof.Count.lean ====
/-
  The kernel's histogram, read over the extended reals: bin `b` of an image is the number of its pixels whose code is `b`.
-/
module

public import proofs.«01_k».proof.Proof.Tile
public import proofs.«01_k».proof.Proof.Code

@[expose] public section

set_option maxRecDepth 16384

noncomputable section

namespace Cert.Proof.Lbp

open Cert.KernelIdeal Cert.KernelIdeal.Gen
open Idealize.ShloMosaic Idealize.ShloMosaic.Pointwise

/-- One where two numbers agree. -/
def hit (a b : ℕ) : EReal := if a = b then 1 else 0

/-- A store of ones adds, at every bin, one for each lane that names it. -/
theorem storeFold (v : IVec S16 32) (h : ∀ a x, ((![v] : Fin 1 → IVec S16 32) a x).toNat < S4096.size a) (e : Fin 4096) (L : List (Fin 16)) :
    ∀ f : Vec Ideal S4096 .f32,
      (L.foldl (fun g k => fun j => if (∀ a, (j a).val = (idxAt (![v] : Fin 1 → IVec S16 32) h (ix1 k) a).val)
          then (g (idxAt (![v] : Fin 1 → IVec S16 32) h (ix1 k)) + 1 : EReal) else g j) f) (ix1 e)
        = f (ix1 e) + (L.map fun k => hit (v (ix1 k)).toNat e.val).sum := by
  induction L with
  | nil => intro f; simp
  | cons k L ih =>
    intro f
    rw [List.foldl_cons, ih, List.map_cons, List.sum_cons, ← add_assoc]
    congr 1
    by_cases hk : (v (ix1 k)).toNat = e.val
    · have e1 : idxAt (![v] : Fin 1 → IVec S16 32) h (ix1 k) = ix1 e := funext fun a => Fin.ext (by
        obtain rfl : a = 0 := Subsingleton.elim _ _
        exact hk)
      rw [e1, if_pos (fun _ => rfl)]
      unfold hit; rw [if_pos hk]
    · rw [if_neg (fun hh => hk (hh 0).symm)]
      unfold hit; rw [if_neg hk, add_zero]

theorem ones_apply (x : S16.Idx) : (ones : FVec Ideal S16 .f32) x = 1 := Ideal.ofBits_one_f32

/-- One trip's count. -/
theorem step_apply (s : BitVec 32) (w : IVec S16 32) (f : Vec Ideal S4096 .f32) (b : Fin 256) (l : Fin 16) :
    step s w f (ix1 ⟨16 * b.val + l.val, by omega⟩) = (f (ix1 ⟨16 * b.val + l.val, by omega⟩) + hit (byte s (w (ix1 l))) b.val : EReal) := by
  have h := storeFold (bin s w) (bin_inb s w) ⟨16 * b.val + l.val, by omega⟩ (List.finRange 16) f
  rw [← Fin.sum_univ_def, Finset.sum_eq_single l] at h
  · refine Eq.trans ?_ (h.trans ?_)
    · unfold step storeIdx
      refine congrFun (congrArg (fun F => List.foldl F f (List.finRange 16)) ?_) _
      funext g k j
      have e1 : (Shape.ofLane k : S16.Idx) = ix1 k := funext fun a => by
        obtain rfl : a = 0 := Subsingleton.elim _ _
        rfl
      simp only [e1]
      refine (congrFun (if_pos rfl) j).trans ?_
      refine if_congr Iff.rfl ?_ rfl
      exact congrArg (fun z : EReal => (g _ : EReal) + z) (ones_apply (ix1 k))
    · congr 1
      rw [bin_toNat]
      unfold hit
      refine if_congr ?_ rfl rfl
      show 16 * byte s (w (ix1 l)) + l.val = 16 * b.val + l.val ↔ _
      omega
  · intro k _ hk
    rw [bin_toNat]
    unfold hit
    refine if_neg fun hh => hk (Fin.ext ?_)
    have hh' : 16 * byte s (w (ix1 k)) + k.val = 16 * b.val + l.val := hh
    omega
  · intro hl; exact absurd (Finset.mem_univ l) hl

/-- The histogram of one byte after `n` trips. -/
theorem hist_apply (C : S32x128x512.Idx → BitVec 32) (im : Fin 32) (s : BitVec 32) (b : Fin 256) (l : Fin 16) (n : ℕ) :
    hist (F := Ideal) C im s n (ix1 ⟨16 * b.val + l.val, by omega⟩)
      = ∑ m ∈ Finset.range n, hit (byte s (words C im m (ix1 l))) b.val := by
  induction n with
  | zero => exact Ideal.ofBits_zero_f32
  | succ n ih => rw [hist_succ, step_apply, ih, Finset.sum_range_succ]

/-- The four histograms added. -/
theorem merged_apply (C : S32x128x512.Idx → BitVec 32) (im : Fin 32) (b : Fin 256) (l : Fin 16) :
    merged (F := Ideal) C im (ix1 ⟨16 * b.val + l.val, by omega⟩)
      = ∑ k : Fin 4, ∑ m : Fin 4096, hit (byte (BitVec.ofNat 32 (8 * k.val)) (words C im m.val (ix1 l))) b.val := by
  have e : ∀ s, ∑ m : Fin 4096, hit (byte s (words C im m.val (ix1 l))) b.val
      = hist (F := Ideal) C im s 4096 (ix1 ⟨16 * b.val + l.val, by omega⟩) := fun s => by
    rw [hist_apply, Finset.sum_range]
  simp only [e, Fin.sum_univ_four]
  exact (add_assoc _ _ _).symm

/-- A bin's sixteen lanes summed. -/
theorem fold_apply (M : Vec Ideal S4096 .f32) (t : ℕ) (x : Fin 16) :
    fold M t (ix1 x) = ∑ j : Fin 16, lanes M t j.val (ix1 x) := by
  unfold fold k1_pay15 k1_pay41
  pointwise
  simp only [Fin.sum_univ_castSucc, Fin.sum_univ_zero, zero_add]
  rfl

/-- The number of an image's pixels whose code is `b`. -/
def count (X : S32x3x512x512.Idx → EReal) (i : Fin 32) (b : Fin 256) : EReal :=
  ∑ r : Fin 512, ∑ c : Fin 512, hit (code X i r c) b.val

/-- The pixels, as the kernel visits them: by lane, by byte of the word, by trip. -/
theorem sum_visit (f : Fin 512 → Fin 512 → EReal) :
    (∑ l : Fin 16, ∑ k : Fin 4, ∑ m : Fin 4096, f ⟨128 * k.val + m.val / 32, by omega⟩ ⟨16 * (m.val % 32) + l.val, by omega⟩)
      = ∑ r, ∑ c, f r c := by
  have em : ∀ g : Fin 4096 → EReal, ∑ m, g m = ∑ q : Fin 128, ∑ t : Fin 32, g ⟨t.val + 32 * q.val, by omega⟩ := fun g =>
    (Fintype.sum_equiv (finProdFinEquiv (m := 128) (n := 32)) (fun p : Fin 128 × Fin 32 => g ⟨p.2.val + 32 * p.1.val, by omega⟩) g fun _ => rfl).symm.trans
      (Fintype.sum_prod_type _)
  have er : ∀ g : Fin 512 → EReal, ∑ r, g r = ∑ k : Fin 4, ∑ q : Fin 128, g ⟨q.val + 128 * k.val, by omega⟩ := fun g =>
    (Fintype.sum_equiv (finProdFinEquiv (m := 4) (n := 128)) (fun p : Fin 4 × Fin 128 => g ⟨p.2.val + 128 * p.1.val, by omega⟩) g fun _ => rfl).symm.trans
      (Fintype.sum_prod_type _)
  have ec : ∀ g : Fin 512 → EReal, ∑ c, g c = ∑ t : Fin 32, ∑ l : Fin 16, g ⟨l.val + 16 * t.val, by omega⟩ := fun g =>
    (Fintype.sum_equiv (finProdFinEquiv (m := 32) (n := 16)) (fun p : Fin 32 × Fin 16 => g ⟨p.2.val + 16 * p.1.val, by omega⟩) g fun _ => rfl).symm.trans
      (Fintype.sum_prod_type _)
  rw [er fun r => ∑ c, f r c]
  simp only [em, ec]
  rw [Finset.sum_comm]
  refine Finset.sum_congr rfl fun k _ => ?_
  rw [Finset.sum_comm]
  refine Finset.sum_congr rfl fun q _ => ?_
  rw [Finset.sum_comm]
  refine Finset.sum_congr rfl fun t _ => ?_
  refine Finset.sum_congr rfl fun l _ => ?_
  congr 2 <;> omega

/-- A byte of a trip's word. -/
theorem byte_words (X : S32x3x512x512.Idx → EReal) (i : Fin 32) (k : Fin 4) (m : Fin 4096) (l : Fin 16) :
    byte (BitVec.ofNat 32 (8 * k.val)) (words (codes (F := Ideal) X) i m.val (ix1 l))
      = code X i ⟨128 * k.val + m.val / 32, by omega⟩ ⟨16 * (m.val % 32) + l.val, by omega⟩ := by
  have e : words (codes (F := Ideal) X) i m.val (ix1 l)
      = codes (F := Ideal) X (ix3 i ⟨m.val / 32, by omega⟩ ⟨16 * (m.val % 32) + l.val, by omega⟩) := by
    unfold words
    have h : (⟨m.val / 32 % 128, Nat.mod_lt _ (by decide)⟩ : Fin 128) = ⟨m.val / 32, by omega⟩ := Fin.ext (by
      show m.val / 32 % 128 = m.val / 32
      omega)
    rw [h]
    rfl
  rw [e]
  exact codes_byte X i ⟨m.val / 32, by omega⟩ ⟨16 * (m.val % 32) + l.val, by omega⟩ k

/-- The kernel's histogram. -/
theorem hOut_apply (X : S32x3x512x512.Idx → EReal) (i : Fin 32) (b : Fin 256) :
    hOut (F := Ideal) (codes (F := Ideal) X) (ix3 i 0 b) = count X i b := by
  show fold (merged (codes (F := Ideal) X) i) (b.val / 16) (ix1 ⟨b.val % 16, _⟩) = _
  rw [fold_apply]
  unfold count
  rw [← sum_visit]
  refine Finset.sum_congr rfl fun l _ => ?_
  have e : (ix1 ⟨(16 * (16 * (b.val / 16) + b.val % 16) + l.val) % 4096, Nat.mod_lt _ (by decide)⟩ : S4096.Idx)
      = ix1 ⟨16 * b.val + l.val, by omega⟩ := by
    congr 1
    exact Fin.ext (by
      show (16 * (16 * (b.val / 16) + b.val % 16) + l.val) % 4096 = 16 * b.val + l.val
      omega)
  refine (congrArg (merged (F := Ideal) (codes (F := Ideal) X) i) e).trans ((merged_apply _ i b l).trans ?_)
  exact Finset.sum_congr rfl fun k _ => Finset.sum_congr rfl fun m _ => congrArg (fun z => hit z b.val) (byte_words X i k m l)

end Cert.Proof.Lbp

end
-- ==== Proof.Norm.lean ====
/-
  The kernel's last body over the extended reals: a histogram divided by its length plus a millionth.
-/
module

public import proofs.«01_k».proof.Proof.Count

@[expose] public section

set_option maxRecDepth 16384

noncomputable section

namespace Cert.Proof.Lbp

open Cert.KernelIdeal Cert.KernelIdeal.Gen
open Idealize.ShloMosaic Idealize.ShloMosaic.Pointwise

/-- A histogram's bin over the histogram's length. -/
def unit (h : Fin 256 → EReal) (b : Fin 256) : EReal :=
  Ideal.div (h b) (Ideal.sqrt (∑ c, h c * h c) + Ideal.ofBits .f32 0x358637BD#32)

theorem pay1_apply (v : Vec Ideal S1x1x256 .f32) (b : Fin 256) :
    k2_pay1 v (ix3 0 0 b) = unit (fun c => v (ix3 0 0 c)) b := by
  unfold k2_pay1 unit
  pointwise
  simp only [Fin.sum_univ_one]
  rfl

end Cert.Proof.Lbp

end
-- ==== Proof.RefCode.lean ====
/-
  The reference's code of a pixel, over the extended reals: the pattern of Code.lean.
-/
module

public import proofs.«01_k».proof.Proof.Code
public import proofs.«01_k».proof.Proof.Gen.ReferenceIdeal.Run

@[expose] public section

set_option maxRecDepth 16384

noncomputable section

namespace Cert.Proof.Lbp

open Cert.ReferenceIdeal Cert.ReferenceIdeal.Gen Cert.ReferenceIdeal.Value
open Idealize.ShloMosaic Idealize.ShloMosaic.Pointwise

variable (V : Valuation τ sig (Elt Ideal))

/-- The reference's argument. -/
abbrev argOf : S32x3x512x512.Idx → EReal := V (Proc.devRef .tc main_arg0)

theorem v10_apply (i : Fin 32) (r c : Fin 512) :
    (res_main_v10 V : S32x1x512x512.Idx → EReal) (ix4 i 0 r c) = gray (argOf V) i r c := by
  unfold res_main_v10 gray
  pointwise

theorem v13_apply (i : Fin 32) (y : Fin 514) (c : Fin 512) :
    (res_main_v13 V : S32x1x514x512.Idx → EReal) (ix4 i 0 y c) = gray (argOf V) i (cl y.val) c := by
  have hy := y.isLt
  unfold res_main_v13
  pointwise
  simp only [v10_apply]
  split_ifs <;> exact gray_at _ i (by simp only [cl]; omega) rfl

theorem v16_apply (i : Fin 32) (y x : Fin 514) :
    (res_main_v16 V : S32x1x514x514.Idx → EReal) (ix4 i 0 y x) = gray (argOf V) i (cl y.val) (cl x.val) := by
  have hx := x.isLt
  unfold res_main_v16
  pointwise
  simp only [v13_apply]
  split_ifs <;> exact gray_at _ i rfl (by simp only [cl]; omega)

/-! ## Eight bits weighted by powers of two -/

theorem ofBits_two_f32 : Ideal.ofBits .f32 0x40000000#32 = ((2 : ℝ) : EReal) := by
  simp [Ideal.ofBits, Ideal.ieee, -EReal.coe_mul]; norm_num

/-- The reference's weights: the powers of two. -/
theorem weight_eq (k : Fin 8) :
    Ideal.pow (Ideal.ofBits .f32 0x40000000#32) (FloatOps.sitofp (F := Ideal) .f32 (BitVec.ofNat 32 k.val)) = (((2 ^ k.val : ℕ) : ℝ) : EReal) := by
  have h : ∀ k : Fin 8, (BitVec.ofNat 32 k.val).toInt = ((k.val : ℕ) : ℤ) := by decide
  rw [ofBits_two_f32]
  show ((Real.rpow 2 (((BitVec.ofNat 32 k.val).toInt : ℤ) : ℝ) : ℝ) : EReal) = _
  rw [h]
  refine congrArg Real.toEReal ((congrArg (Real.rpow 2) (Int.cast_natCast _)).trans ((Real.rpow_natCast 2 k.val).trans ?_))
  push_cast; rfl

/-- A natural number that a word holds, taken to a word. -/
theorem fptosi_nat (n : ℕ) (h : n < 2 ^ 31) : FloatOps.fptosi (F := Ideal) (φ := .f32) 32 (((n : ℕ) : ℝ) : EReal) = BitVec.ofNat 32 n := by
  show BitVec.ofInt 32 (Ideal.toIntClamped _ _ ((n : ℝ) : EReal)) = _
  rw [Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by
    norm_num at h ⊢
    omega
  exact (congrArg (BitVec.ofInt 32) e).trans (BitVec.ofInt_natCast 32 n)

/-- The weighted sum of eight bits, taken to a word. -/
theorem fptosi_bits (B : Fin 8 → BitVec 1) :
    FloatOps.fptosi (F := Ideal) (φ := .f32) 32 (∑ k : Fin 8, (FloatOps.uitofp (F := Ideal) .f32 (B k) : EReal)
        * Ideal.pow (Ideal.ofBits .f32 0x40000000#32) (FloatOps.sitofp (F := Ideal) .f32 (BitVec.ofNat 32 k.val)))
      = BitVec.ofNat 32 (∑ k : Fin 8, (B k).toNat * 2 ^ k.val) := by
  have e : (∑ k : Fin 8, (FloatOps.uitofp (F := Ideal) .f32 (B k) : EReal)
        * Ideal.pow (Ideal.ofBits .f32 0x40000000#32) (FloatOps.sitofp (F := Ideal) .f32 (BitVec.ofNat 32 k.val)))
      = (((∑ k : Fin 8, (B k).toNat * 2 ^ k.val : ℕ) : ℝ) : EReal) := by
    have t : ∀ k : Fin 8, (FloatOps.uitofp (F := Ideal) .f32 (B k) : EReal)
        * Ideal.pow (Ideal.ofBits .f32 0x40000000#32) (FloatOps.sitofp (F := Ideal) .f32 (BitVec.ofNat 32 k.val))
        = ((((B k).toNat * 2 ^ k.val : ℕ) : ℝ) : EReal) := fun k => by
      rw [weight_eq]
      show (((B k).toNat : ℝ) : EReal) * _ = _
      rw [← EReal.coe_mul, Nat.cast_mul]
    simp only [t, Fin.sum_univ_eight, ← EReal.coe_add, ← Nat.cast_add]
  rw [e]
  refine fptosi_nat _ ?_
  have h := fun k => (B k).isLt
  have := h 0; have := h 1; have := h 2; have := h 3; have := h 4; have := h 5; have := h 6; have := h 7
  simp only [Fin.sum_univ_eight]
  norm_num
  omega

/-- The bits of pixel `p`'s pattern, in the order of their weights. -/
def bits (i : Fin 32) (p : Fin 262144) : Fin 8 → BitVec 1 :=
  let n := nb (argOf V) i ⟨p.val / 512, by omega⟩ ⟨p.val % 512, by omega⟩
  ![n 0 0, n 0 1, n 0 2, n 1 2, n 2 2, n 2 1, n 2 0, n 1 0]

theorem nb_of (X : S32x3x512x512.Idx → EReal) (i : Fin 32) {r c : Fin 512} {y x u v : ℕ} (hu : y + r.val = u) (hv : x + c.val = v) :
    BitVec.ofBool (decide (gray X i r c ≤ gray X i (cl u) (cl v))) = nb X i r c y x := by
  subst hu hv; rfl

/-- The codes the reference counts. -/
theorem v66_apply (i : Fin 32) (p : Fin 262144) :
    (res_main_v66 V : S32x262144.Idx → BitVec 32) (ix2 i p)
      = BitVec.ofNat 32 (code (argOf V) i ⟨p.val / 512, by omega⟩ ⟨p.val % 512, by omega⟩) := by
  unfold res_main_v66
  pointwise
  simp only [v10_apply, v16_apply]
  have e : code (argOf V) i ⟨p.val / 512, by omega⟩ ⟨p.val % 512, by omega⟩ = ∑ k : Fin 8, (bits V i p k).toNat * 2 ^ k.val := by
    rw [Fin.sum_univ_eight]
    show _ = (nb (argOf V) i _ _ 0 0).toNat * 2 ^ 0 + (nb (argOf V) i _ _ 0 1).toNat * 2 ^ 1 + (nb (argOf V) i _ _ 0 2).toNat * 2 ^ 2
      + (nb (argOf V) i _ _ 1 2).toNat * 2 ^ 3 + (nb (argOf V) i _ _ 2 2).toNat * 2 ^ 4 + (nb (argOf V) i _ _ 2 1).toNat * 2 ^ 5
      + (nb (argOf V) i _ _ 2 0).toNat * 2 ^ 6 + (nb (argOf V) i _ _ 1 0).toNat * 2 ^ 7
    unfold code
    omega
  refine Eq.trans ?_ ((fptosi_bits (bits V i p)).trans (congrArg (BitVec.ofNat 32) e.symm))
  refine congrArg (FloatOps.fptosi (F := Ideal) (φ := .f32) 32) (Finset.sum_congr rfl fun k _ => ?_)
  refine congrArg (fun z : EReal => z * _) ?_
  match k with
  | 0 => exact congrArg (FloatOps.uitofp (F := Ideal) .f32) (nb_of (argOf V) i (y := 0) (x := 0) (Nat.zero_add _) (Nat.zero_add _))
  | 1 => exact congrArg (FloatOps.uitofp (F := Ideal) .f32) (nb_of (argOf V) i (y := 0) (x := 1) (Nat.zero_add _) rfl)
  | 2 => exact congrArg (FloatOps.uitofp (F := Ideal) .f32) (nb_of (argOf V) i (y := 0) (x := 2) (Nat.zero_add _) rfl)
  | 3 => exact congrArg (FloatOps.uitofp (F := Ideal) .f32) (nb_of (argOf V) i (y := 1) (x := 2) rfl rfl)
  | 4 => exact congrArg (FloatOps.uitofp (F := Ideal) .f32) (nb_of (argOf V) i (y := 2) (x := 2) rfl rfl)
  | 5 => exact congrArg (FloatOps.uitofp (F := Ideal) .f32) (nb_of (argOf V) i (y := 2) (x := 1) rfl rfl)
  | 6 => exact congrArg (FloatOps.uitofp (F := Ideal) .f32) (nb_of (argOf V) i (y := 2) (x := 0) rfl (Nat.zero_add _))
  | 7 => exact congrArg (FloatOps.uitofp (F := Ideal) .f32) (nb_of (argOf V) i (y := 1) (x := 0) rfl (Nat.zero_add _))

end Cert.Proof.Lbp

end
-- ==== Proof.Scatter.lean ====
/-
  A sum scattered into a table by pairs of words, at any sizes: what an entry holds.
-/
module

public import Idealize.ShloMosaic.Lib.Routing.OpsOne
public import Idealize.ShloMosaic.Lib.Pointwise

@[expose] public section

noncomputable section

namespace Cert.Proof.Lbp

open Idealize.ShloMosaic Idealize.ShloMosaic.Pointwise
open Idealize.ShloMosaic.Routing (shape2 shape3)

variable {R C A P : ℕ} (wf : ScatterDims.WF (shape2 R C) (shape3 A P 2) (shape2 A P) [] [0, 1] [0, 1] 2)

/-- The numbers of a scatter by pairs of words. -/
def pairs : ScatterDims (shape2 R C) (shape3 A P 2) (shape2 A P) := ⟨[], [0, 1], [0, 1], 2, wf⟩

theorem pairs_start {w : ℕ} (idx : IVec (shape3 A P 2) w) (i : Fin A) (p : Fin P) (q : Fin 2) :
    (pairs wf).start (ix2 i p) idx q = (idx (ix3 i p q)).toInt := by
  have hm : q ∈ (pairs wf).scatterDimsToOperandDims := by
    show q ∈ [(0 : Fin 2), 1]
    fin_cases q <;> decide
  unfold ScatterDims.start
  refine (dif_pos hm).trans (congrArg (fun z => (idx z).toInt) (funext fun b => Fin.ext ?_))
  match b with
  | 0 => rfl
  | 1 => rfl
  | 2 =>
    show List.idxOf q [(0 : Fin 2), 1] = q.val
    fin_cases q <;> rfl

theorem pairs_window (k : (shape2 A P).Idx) (q : Fin 2) : (pairs wf).window k q = 0 := by
  have h : (pairs wf).sKept = [] := rfl
  unfold ScatterDims.window
  exact dif_neg (by rw [h]; exact List.not_mem_nil)

/-- An entry after the scatter: what it held, and every update whose pair of words names it. -/
theorem pairs_apply {w : ℕ} (x : (shape2 R C).Idx → EReal) (idx : IVec (shape3 A P 2) w) (upd : (shape2 A P).Idx → EReal) (r : Fin R) (c : Fin C) :
    Ideal.hostScatterAdd (pairs wf) x idx upd (ix2 r c)
      = x (ix2 r c) + ∑ i : Fin A, ∑ p : Fin P,
          if (idx (ix3 i p 0)).toInt = r.val ∧ (idx (ix3 i p 1)).toInt = c.val then upd (ix2 i p) else 0 := by
  unfold Ideal.hostScatterAdd
  rw [Finset.sum_filter, sum_idx2]
  refine congrArg (fun z : EReal => x (ix2 r c) + z) (Finset.sum_congr rfl fun i _ => Finset.sum_congr rfl fun p _ => if_congr ?_ rfl rfl)
  refine (Routing.resultIdx?_ix2 (pairs wf) (ix2 i p) idx r c).trans ?_
  rw [pairs_start, pairs_start, pairs_window, pairs_window]
  simp

end Cert.Proof.Lbp

end
-- ==== Proof.RefCount.lean ====
/-
  The reference's histogram over the extended reals: the number of an image's pixels with each code.
-/
module

public import proofs.«01_k».proof.Proof.Norm
public import proofs.«01_k».proof.Proof.RefCode
public import proofs.«01_k».proof.Proof.Scatter

@[expose] public section

set_option maxRecDepth 16384

noncomputable section

namespace Cert.Proof.Lbp

open Cert.ReferenceIdeal Cert.ReferenceIdeal.Gen Cert.ReferenceIdeal.Value
open Idealize.ShloMosaic Idealize.ShloMosaic.Pointwise

variable (V : Valuation τ sig (Elt Ideal))

/-- The image and the code every pixel is counted under. -/
def places : S32x262144x2.Idx → BitVec 32 := concatenate S32x262144x2 2 [⟨S32x262144x1, (broadcastInDim S32x262144x1 ![0, 1] bcast_S32x262144_S32x262144x1_0_1 (broadcastInDim S32x262144 ![0, 1] bcast_S32x1_S32x262144_0_1 (select (cmpi .slt (res_main_v68 V) (broadcastInDim S32x1 ![] bcast_S_S32x1 (constantI S_ 32 0#32))) (addi (res_main_v68 V) (broadcastInDim S32x1 ![] bcast_S_S32x1 (constantI S_ 32 32#32))) (res_main_v68 V))))⟩, ⟨S32x262144x1, (broadcastInDim S32x262144x1 ![0, 1] bcast_S32x262144_S32x262144x1_0_1 (select (cmpi .slt (res_main_v66 V) (broadcastInDim S32x262144 ![] bcast_S_S32x262144 (constantI S_ 32 0#32))) (addi (res_main_v66 V) (broadcastInDim S32x262144 ![] bcast_S_S32x262144 (constantI S_ 32 256#32))) (res_main_v66 V)))⟩] concatenates_S32x262144x1_S32x262144x1_S32x262144x2_d2

theorem places_image (i : Fin 32) (p : Fin 262144) : places V (ix3 i p 0) = BitVec.ofNat 32 i.val := by
  unfold places res_main_v68
  pointwise
  refine Routing.wrap_of_lt _ _ ?_
  rw [BitVec.toNat_ofNat]; omega

theorem places_code (i : Fin 32) (p : Fin 262144) :
    places V (ix3 i p 1) = BitVec.ofNat 32 (code (argOf V) i ⟨p.val / 512, by omega⟩ ⟨p.val % 512, by omega⟩) := by
  have h := code_lt (argOf V) i ⟨p.val / 512, by omega⟩ ⟨p.val % 512, by omega⟩
  unfold places
  pointwise
  rw [v66_apply]
  refine Routing.wrap_of_lt _ _ ?_
  rw [BitVec.toNat_ofNat]; omega

/-- What the histogram starts from, and what it adds. -/
def zeros : S32x256.Idx → EReal := broadcastInDim S32x256 ![] bcast_S_S32x256 (constant (F := Ideal) S_ .f32 0x00000000#32)
def units : S32x262144.Idx → EReal := broadcastInDim S32x262144 ![] bcast_S_S32x262144 (constant (F := Ideal) S_ .f32 0x3F800000#32)

theorem zeros_apply (i : Fin 32) (b : Fin 256) : zeros (ix2 i b) = 0 := by
  unfold zeros
  pointwise

theorem units_apply (i : Fin 32) (p : Fin 262144) : units (ix2 i p) = 1 := by
  unfold units
  pointwise

/-- A histogram at `Ideal`, whatever it is made of. -/
theorem host_scatter {s si su : Shape} (d e : ScatterDims s si su) (h : d = e) (x : s.Idx → EReal) (idx : IVec si 32) (upd : su.Idx → EReal) :
    (Host.scatterAdd (F := Ideal) (φ := .f32) d x idx upd : s.Idx → EReal) = Ideal.hostScatterAdd e x idx upd := by
  subst h; rfl

theorem v85_eq : (res_main_v85 V : S32x256.Idx → EReal)
    = Host.scatterAdd (F := Ideal) (φ := .f32) scatter_S32x256_S32x262144x2_S32x262144_n_01_01_2 zeros (places V) units := by
  unfold res_main_v85 places zeros units
  rfl

/-- The sum over the pixels in row-major order. -/
theorem sum_pixels (f : Fin 512 → Fin 512 → EReal) :
    (∑ p : Fin 262144, f ⟨p.val / 512, by omega⟩ ⟨p.val % 512, by omega⟩) = ∑ r, ∑ c, f r c := by
  rw [← Fintype.sum_prod_type']
  refine (Fintype.sum_equiv (finProdFinEquiv (m := 512) (n := 512)) _ (fun p : Fin 262144 => f ⟨p.val / 512, by omega⟩ ⟨p.val % 512, by omega⟩) fun q => ?_).symm
  have h1 := q.1.isLt
  have h2 := q.2.isLt
  have e1 : (⟨(q.2.val + 512 * q.1.val) / 512, by omega⟩ : Fin 512) = q.1 := Fin.ext (by
    show (q.2.val + 512 * q.1.val) / 512 = q.1.val
    omega)
  have e2 : (⟨(q.2.val + 512 * q.1.val) % 512, by omega⟩ : Fin 512) = q.2 := Fin.ext (by
    show (q.2.val + 512 * q.1.val) % 512 = q.2.val
    omega)
  exact (congr (congrArg f e1) e2).symm

/-- The reference's histogram. -/
theorem v85_apply (i : Fin 32) (b : Fin 256) :
    (res_main_v85 V : S32x256.Idx → EReal) (ix2 i b) = count (argOf V) i b := by
  refine ((congrFun (v85_eq V) _).trans (congrFun (host_scatter scatter_S32x256_S32x262144x2_S32x262144_n_01_01_2
    (pairs scatter_S32x256_S32x262144x2_S32x262144_n_01_01_2.wf) rfl zeros (places V) units) _)).trans ?_
  refine (pairs_apply _ zeros (places V) units i b).trans ?_
  rw [zeros_apply, zero_add]
  have t : ∀ (j : Fin 32) (p : Fin 262144),
      (if (places V (ix3 j p 0)).toInt = i.val ∧ (places V (ix3 j p 1)).toInt = b.val then units (ix2 j p) else 0)
        = if j = i then hit (code (argOf V) j ⟨p.val / 512, by omega⟩ ⟨p.val % 512, by omega⟩) b.val else 0 := fun j p => by
    have hj := j.isLt
    have h := code_lt (argOf V) j ⟨p.val / 512, by omega⟩ ⟨p.val % 512, by omega⟩
    rw [places_image, places_code, units_apply, StableHlo.Predicate.toInt_ofNat_small _ (by omega), StableHlo.Predicate.toInt_ofNat_small _ (by omega)]
    unfold hit
    by_cases e : j = i
    · subst e
      rw [if_pos rfl]
      exact if_congr (by simp) rfl rfl
    · rw [if_neg e]
      exact if_neg fun hh => e (Fin.ext (by exact_mod_cast hh.1))
  simp only [t]
  rw [Finset.sum_eq_single i (fun j _ hj => Finset.sum_eq_zero fun p _ => if_neg hj) (fun hi => absurd (Finset.mem_univ i) hi)]
  simp only [if_true]
  exact sum_pixels fun r c => hit (code (argOf V) i r c) b.val

end Cert.Proof.Lbp

end
-- ==== Proof.Equation.lean ====
/-
  The equation over the extended reals: what the kernel leaves in its result is what the reference leaves in its own.
-/
module

public import proofs.«01_k».proof.Proof.Launch
public import proofs.«01_k».proof.Proof.RefCount

@[expose] public section

set_option maxRecDepth 16384

noncomputable section

namespace Cert.Proof.Lbp

open Idealize.ShloMosaic Idealize.ShloMosaic.Pointwise

/-- The result both programs leave: every image's counts over their length. -/
def result (X : Cert.KernelIdeal.S32x3x512x512.Idx → EReal) : Cert.KernelIdeal.S32x256.Idx → EReal :=
  fun x => unit (count X (x 0)) (x 1)

/-- Two arrays that agree at every image and bin. -/
theorem ext_bins {f g : Cert.KernelIdeal.S32x256.Idx → EReal} (h : ∀ (i : Fin 32) (b : Fin 256), f (ix2 i b) = g (ix2 i b)) : f = g :=
  funext fun x => (congrArg f (ix2_eta x).symm).trans ((h (x 0) (x 1)).trans (congrArg g (ix2_eta x)))

section Kernel
open Cert.KernelIdeal Cert.KernelIdeal.Gen

theorem normed_apply (H : S32x1x256.Idx → EReal) (i : Fin 32) (b : Fin 256) :
    normed (F := Ideal) H (ix3 i 0 b) = unit (fun c => H (ix3 i 0 c)) b := by
  show normBlk (F := Ideal) (fun y => H (ix3 i (y 1) (y 2))) (ix3 0 0 b) = _
  unfold normBlk
  rw [View.canon_unit_zero (by decide), View.ld_unit_zero (by decide)]
  exact pay1_apply _ b

variable (m : (ℓ : Loc nD τ sig) → Buf (Elt Ideal) ℓ)

/-- The kernel's argument. -/
abbrev argK (d : Dev nD) : S32x3x512x512.Idx → EReal := m (aLoc d)

theorem V1_d0 (d : Dev nD) : (V1 m d d0 : S32x3x512x512.Idx → EReal) = argK m d := by
  unfold V1
  rw [StableHlo.unary_result]
  funext x
  rw [show x = ix4 (x 0) (x 1) (x 2) (x 3) from (ix4_eta x).symm]
  pointwise
  rfl

theorem V4_normed (d : Dev nD) : (V4 m d d3 : S32x1x256.Idx → EReal) = normed (F := Ideal) (hOut (F := Ideal) (codes (F := Ideal) (argK m d))) := by
  rw [V4_d3]
  unfold Cm
  rw [V1_d0]

theorem cast_apply (H : S32x1x256.Idx → EReal) (i : Fin 32) (b : Fin 256) :
    shapeCast S32x256 H shapeCasts_S32x1x256_S32x256 (ix2 i b) = H (ix3 i 0 b) := by
  pointwise

theorem kernel_result (d : Dev nD) : (V5 m d d4 : S32x256.Idx → EReal) = result (argK m d) := by
  unfold V5
  rw [StableHlo.reshape_result]
  refine ext_bins fun i b => ?_
  show shapeCast S32x256 (V4 m d d3 : S32x1x256.Idx → EReal) shapeCasts_S32x1x256_S32x256 (ix2 i b) = unit (count (argK m d) i) b
  rw [V4_normed, cast_apply, normed_apply]
  exact congrArg (fun h => unit h b) (funext fun c => hOut_apply (argK m d) i c)

end Kernel

section Reference
open Cert.ReferenceIdeal Cert.ReferenceIdeal.Gen Cert.ReferenceIdeal.Value

/-- An array of rows, every row over its length. -/
def overLength (Y : FVec Ideal S32x256 .f32) : FVec Ideal S32x256 .f32 :=
  Host.divf Y (broadcastInDim S32x256 ![0, 1] bcast_S32x1_S32x256_0_1 (addf (Host.sqrt (broadcastInDim S32x1 ![0] bcast_S32_S32x1_0
    (Host.reduceAdd (mulf Y Y) (constant S_ .f32 0x00000000#32) reducesTo_S32x256_S32_d1 h_S_)))
    (broadcastInDim S32x1 ![] bcast_S_S32x1 (constant S_ .f32 0x358637BD#32))))

theorem overLength_apply (Y : FVec Ideal S32x256 .f32) (i : Fin 32) (b : Fin 256) :
    overLength Y (ix2 i b) = unit (fun c => Y (ix2 i c)) b := by
  unfold overLength unit
  pointwise

theorem reference_result (V : Valuation τ sig (Elt Ideal)) : (overLength (res_main_v85 V) : S32x256.Idx → EReal) = result (argOf V) :=
  ext_bins fun i b => (overLength_apply _ i b).trans (congrArg (fun h => unit h b) (funext fun c => v85_apply V i c))

end Reference

end Cert.Proof.Lbp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel ends with its argument unchanged and every counter at zero, at any float bits: its whole run
    (`Lbp.run_main`) read at the argument. -/
theorem frame_kernel : Cert.quiescent_Kernel := by
  intro m ρ _
  have h := (θ_run Cert.KernelIdeal.defs _ _).mono (Q' := fun r => (∀ c, r.2.mem (Lbp.aLoc c) = m (Lbp.aLoc c))
    ∧ r.2.sem = fun _ => 0) (fun _ h => ⟨fun c => (h.1 c).1, h.2⟩) (Lbp.run_main (F := Bits) m ρ)
  rw [← Lbp.defs_same] at h
  exact h

/-- The same of the kernel over the extended reals. -/
theorem frame_kernelIdeal : Cert.quiescent_KernelIdeal := fun m ρ _ =>
  (θ_run Cert.KernelIdeal.defs _ _).mono (fun _ h => ⟨fun c => (h.1 c).1, h.2⟩) (Lbp.run_main (F := Ideal) m ρ)

/-- The reference writes no argument and declares no counter. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From one argument both programs leave every image's counts over their length (`Lbp.result`). -/
theorem algebraic : Cert.algebraic_KernelIdeal_ReferenceIdeal := fun m g m' g' _ hArg =>
  ⟨fun c => Lbp.result (m (Lbp.aLoc c)),
    (θ_run Cert.KernelIdeal.defs _ _).mono (fun _ h c => ⟨(h.1 c).2.trans (Lbp.kernel_result m c), (h.1 c).1⟩) (Lbp.run_main (F := Ideal) m g),
    (θ_run Cert.ReferenceIdeal.defs _ _).mono
      (fun _ h c => ⟨(h c).1.trans ((Lbp.reference_result _).trans (congrArg Lbp.result (hArg c))), (h c).2⟩)
      (Cert.ReferenceIdeal.Value.run (F := Ideal) m' g')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
